-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x7168 : Shape := ⟨3, ![2, 1024, 7168]⟩
abbrev S2x1024x112 : Shape := ⟨3, ![2, 1024, 112]⟩
abbrev S7168x384 : Shape := ⟨2, ![7168, 384]⟩
abbrev S2x1024x8 : Shape := ⟨3, ![2, 1024, 8]⟩
abbrev S2x112x1024 : Shape := ⟨3, ![2, 112, 1024]⟩
abbrev S2x8x1024 : Shape := ⟨3, ![2, 8, 1024]⟩
abbrev S8x1x256 : Shape := ⟨3, ![8, 1, 256]⟩
abbrev S1x384 : Shape := ⟨2, ![1, 384]⟩
abbrev S2x1024x384 : Shape := ⟨3, ![2, 1024, 384]⟩
abbrev S1x256x7168 : Shape := ⟨3, ![1, 256, 7168]⟩
abbrev S1x112x256 : Shape := ⟨3, ![1, 112, 256]⟩
abbrev S1x1x256 : Shape := ⟨3, ![1, 1, 256]⟩
abbrev S1x256x384 : Shape := ⟨3, ![1, 256, 384]⟩
abbrev S384x7168 : Shape := ⟨2, ![384, 7168]⟩
abbrev S384x128 : Shape := ⟨2, ![384, 128]⟩
abbrev S256x384 : Shape := ⟨2, ![256, 384]⟩
abbrev S384x256 : Shape := ⟨2, ![384, 256]⟩
abbrev S1x1x128 : Shape := ⟨3, ![1, 1, 128]⟩
abbrev S1x128 : Shape := ⟨2, ![1, 128]⟩
abbrev S384 : Shape := ⟨1, ![384]⟩
abbrev S384x1 : Shape := ⟨2, ![384, 1]⟩
abbrev S112x256 : Shape := ⟨2, ![112, 256]⟩
abbrev S256x112 : Shape := ⟨2, ![256, 112]⟩
abbrev S256x16 : Shape := ⟨2, ![256, 16]⟩
abbrev S256x128 : Shape := ⟨2, ![256, 128]⟩
abbrev S256x128x1 : Shape := ⟨3, ![256, 128, 1]⟩
abbrev S1x256x128 : Shape := ⟨3, ![1, 256, 128]⟩
abbrev S256x256 : Shape := ⟨2, ![256, 256]⟩
abbrev S256 : Shape := ⟨1, ![256]⟩
abbrev S1x256 : Shape := ⟨2, ![1, 256]⟩
abbrev S128x384 : Shape := ⟨2, ![128, 384]⟩

abbrev nBuf : Space → Nat
  | .hbm => 11
  | .vmem => 18
  | .smem => 0
  | _ => 0

abbrev bufTy : (tb : Table) → Fin (tcTables nBuf tb) → BufTy
  | .hbm, ⟨0, _⟩ => ⟨S2x1024x7168, .fp8e4m3⟩
  | .hbm, ⟨1, _⟩ => ⟨S2x1024x112, .f32⟩
  | .hbm, ⟨2, _⟩ => ⟨S7168x384, .bf16⟩
  | .hbm, ⟨3, _⟩ => ⟨S2x1024x8, .i32⟩
  | .hbm, ⟨4, _⟩ => ⟨S2x112x1024, .f32⟩
  | .hbm, ⟨5, _⟩ => ⟨S2x8x1024, .i32⟩
  | .hbm, ⟨6, _⟩ => ⟨S8x1x256, .f32⟩
  | .hbm, ⟨7, _⟩ => ⟨S8x1x256, .f32⟩
  | .hbm, ⟨8, _⟩ => ⟨S1x384, .f32⟩
  | .hbm, ⟨9, _⟩ => ⟨S8x1x256, .f32⟩
  | .hbm, ⟨10, _⟩ => ⟨S2x1024x384, .f32⟩
  | .local _ .vmem, ⟨0, _⟩ => ⟨S1x256x7168, .fp8e4m3⟩
  | .local _ .vmem, ⟨1, _⟩ => ⟨S1x256x7168, .fp8e4m3⟩
  | .local _ .vmem, ⟨2, _⟩ => ⟨S1x112x256, .f32⟩
  | .local _ .vmem, ⟨3, _⟩ => ⟨S1x112x256, .f32⟩
  | .local _ .vmem, ⟨4, _⟩ => ⟨S7168x384, .bf16⟩
  | .local _ .vmem, ⟨5, _⟩ => ⟨S2x8x1024, .i32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x384, .f32⟩
  | .local _ .vmem, ⟨11, _⟩ => ⟨S1x1x256, .f32⟩
  | .local _ .vmem, ⟨12, _⟩ => ⟨S1x1x256, .f32⟩
  | .local _ .vmem, ⟨13, _⟩ => ⟨S1x256x384, .f32⟩
  | .local _ .vmem, ⟨14, _⟩ => ⟨S1x256x384, .f32⟩
  | .local _ .vmem, ⟨15, _⟩ => ⟨S384x7168, .bf16⟩
  | .local _ .vmem, ⟨16, _⟩ => ⟨S384x128, .f32⟩
  | .local _ .vmem, ⟨17, _⟩ => ⟨S384x128, .f32⟩
  | _, _ => ⟨S2x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_459 : BitVec 32 := 0#32
  let c8_i32_460 : BitVec 32 := 8#32
  let v1187 : BitVec 32 := Scalar.addi c0_i32_459 c8_i32_460
  let c1_i32_461 : BitVec 32 := 1#32
  ⟨c0_i32_459, v1187, c1_i32_461⟩
def k0_mult1 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_470 : BitVec 32 := 128#32
  let v1203 : BitVec 32 := Scalar.muli arg13 c128_i32_470
  v1203
def k0_off1 (k0_t1 : Fin k0_t1_loop.trips) : Fin 3 → Nat :=
  let c0_471 : Index := 0#32
  let c0_472 : Index := 0#32
  let c0_i32_459 : BitVec 32 := 0#32
  let c1_i32_461 : BitVec 32 := 1#32
  let arg13 : BitVec 32 := Scf.iv c0_i32_459 c1_i32_461 k0_t1
  let c128_i32_470 : BitVec 32 := 128#32
  let v1203 : BitVec 32 := Scalar.muli arg13 c128_i32_470
  let v1204 : BitVec 32 := v1203
  let v1205 : Index := Scalar.indexCast v1204
  ![0, 0, v1205.toNat]
def k0_mult2 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_473 : BitVec 32 := 128#32
  let v1212 : BitVec 32 := Scalar.muli arg13 c128_i32_473
  v1212
def k0_off2 (k0_t1 : Fin k0_t1_loop.trips) : Fin 3 → Nat :=
  let c1 : Index := 1#32
  let c0_474 : Index := 0#32
  let c0_i32_459 : BitVec 32 := 0#32
  let c1_i32_461 : BitVec 32 := 1#32
  let arg13 : BitVec 32 := Scf.iv c0_i32_459 c1_i32_461 k0_t1
  let c128_i32_473 : BitVec 32 := 128#32
  let v1212 : BitVec 32 := Scalar.muli arg13 c128_i32_473
  let v1213 : BitVec 32 := v1212
  let v1214 : Index := Scalar.indexCast v1213
  ![1, 0, v1214.toNat]
def k0_mult3 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_475 : BitVec 32 := 128#32
  let v1221 : BitVec 32 := Scalar.muli arg13 c128_i32_475
  v1221
def k0_off3 (k0_t1 : Fin k0_t1_loop.trips) : Fin 3 → Nat :=
  let c0_476 : Index := 0#32
  let c1_477 : Index := 1#32
  let c0_i32_459 : BitVec 32 := 0#32
  let c1_i32_461 : BitVec 32 := 1#32
  let arg13 : BitVec 32 := Scf.iv c0_i32_459 c1_i32_461 k0_t1
  let c128_i32_475 : BitVec 32 := 128#32
  let v1221 : BitVec 32 := Scalar.muli arg13 c128_i32_475
  let v1222 : BitVec 32 := v1221
  let v1223 : Index := Scalar.indexCast v1222
  ![0, 1, v1223.toNat]
def k0_mult4 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_478 : BitVec 32 := 128#32
  let v1230 : BitVec 32 := Scalar.muli arg13 c128_i32_478
  v1230
def k0_off4 (k0_t1 : Fin k0_t1_loop.trips) : Fin 3 → Nat :=
  let c1_479 : Index := 1#32
  let c1_480 : Index := 1#32
  let c0_i32_459 : BitVec 32 := 0#32
  let c1_i32_461 : BitVec 32 := 1#32
  let arg13 : BitVec 32 := Scf.iv c0_i32_459 c1_i32_461 k0_t1
  let c128_i32_478 : BitVec 32 := 128#32
  let v1230 : BitVec 32 := Scalar.muli arg13 c128_i32_478
  let v1231 : BitVec 32 := v1230
  let v1232 : Index := Scalar.indexCast v1231
  ![1, 1, v1232.toNat]
def k0_mult5 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_481 : BitVec 32 := 128#32
  let v1239 : BitVec 32 := Scalar.muli arg13 c128_i32_481
  v1239
def k0_off5 (k0_t1 : Fin k0_t1_loop.trips) : Fin 3 → Nat :=
  let c0_482 : Index := 0#32
  let c2 : Index := 2#32
  let c0_i32_459 : BitVec 32 := 0#32
  let c1_i32_461 : BitVec 32 := 1#32
  let arg13 : BitVec 32 := Scf.iv c0_i32_459 c1_i32_461 k0_t1
  let c128_i32_481 : BitVec 32 := 128#32
  let v1239 : BitVec 32 := Scalar.muli arg13 c128_i32_481
  let v1240 : BitVec 32 := v1239
  let v1241 : Index := Scalar.indexCast v1240
  ![0, 2, v1241.toNat]
def k0_mult6 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_483 : BitVec 32 := 128#32
  let v1248 : BitVec 32 := Scalar.muli arg13 c128_i32_483
  v1248
def k0_off6 (k0_t1 : Fin k0_t1_loop.trips) : Fin 3 → Nat :=
  let c1_484 : Index := 1#32
  let c2_485 : Index := 2#32
  let c0_i32_459 : BitVec 32 := 0#32
  let c1_i32_461 : BitVec 32 := 1#32
  let arg13 : BitVec 32 := Scf.iv c0_i32_459 c1_i32_461 k0_t1
  let c128_i32_483 : BitVec 32 := 128#32
  let v1248 : BitVec 32 := Scalar.muli arg13 c128_i32_483
  let v1249 : BitVec 32 := v1248
  let v1250 : Index := Scalar.indexCast v1249
  ![1, 2, v1250.toNat]
def k0_mult7 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_486 : BitVec 32 := 128#32
  let v1257 : BitVec 32 := Scalar.muli arg13 c128_i32_486
  v1257
def k0_off7 (k0_t1 : Fin k0_t1_loop.trips) : Fin 3 → Nat :=
  let c0_487 : Index := 0#32
  let c3 : Index := 3#32
  let c0_i32_459 : BitVec 32 := 0#32
  let c1_i32_461 : BitVec 32 := 1#32
  let arg13 : BitVec 32 := Scf.iv c0_i32_459 c1_i32_461 k0_t1
  let c128_i32_486 : BitVec 32 := 128#32
  let v1257 : BitVec 32 := Scalar.muli arg13 c128_i32_486
  let v1258 : BitVec 32 := v1257
  let v1259 : Index := Scalar.indexCast v1258
  ![0, 3, v1259.toNat]
def k0_mult8 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_488 : BitVec 32 := 128#32
  let v1266 : BitVec 32 := Scalar.muli arg13 c128_i32_488
  v1266
def k0_off8 (k0_t1 : Fin k0_t1_loop.trips) : Fin 3 → Nat :=
  let c1_489 : Index := 1#32
  let c3_490 : Index := 3#32
  let c0_i32_459 : BitVec 32 := 0#32
  let c1_i32_461 : BitVec 32 := 1#32
  let arg13 : BitVec 32 := Scf.iv c0_i32_459 c1_i32_461 k0_t1
  let c128_i32_488 : BitVec 32 := 128#32
  let v1266 : BitVec 32 := Scalar.muli arg13 c128_i32_488
  let v1267 : BitVec 32 := v1266
  let v1268 : Index := Scalar.indexCast v1267
  ![1, 3, v1268.toNat]
def k0_mult9 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_491 : BitVec 32 := 128#32
  let v1275 : BitVec 32 := Scalar.muli arg13 c128_i32_491
  v1275
def k0_off9 (k0_t1 : Fin k0_t1_loop.trips) : Fin 3 → Nat :=
  let c0_492 : Index := 0#32
  let c4 : Index := 4#32
  let c0_i32_459 : BitVec 32 := 0#32
  let c1_i32_461 : BitVec 32 := 1#32
  let arg13 : BitVec 32 := Scf.iv c0_i32_459 c1_i32_461 k0_t1
  let c128_i32_491 : BitVec 32 := 128#32
  let v1275 : BitVec 32 := Scalar.muli arg13 c128_i32_491
  let v1276 : BitVec 32 := v1275
  let v1277 : Index := Scalar.indexCast v1276
  ![0, 4, v1277.toNat]
def k0_mult10 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_493 : BitVec 32 := 128#32
  let v1284 : BitVec 32 := Scalar.muli arg13 c128_i32_493
  v1284
def k0_off10 (k0_t1 : Fin k0_t1_loop.trips) : Fin 3 → Nat :=
  let c1_494 : Index := 1#32
  let c4_495 : Index := 4#32
  let c0_i32_459 : BitVec 32 := 0#32
  let c1_i32_461 : BitVec 32 := 1#32
  let arg13 : BitVec 32 := Scf.iv c0_i32_459 c1_i32_461 k0_t1
  let c128_i32_493 : BitVec 32 := 128#32
  let v1284 : BitVec 32 := Scalar.muli arg13 c128_i32_493
  let v1285 : BitVec 32 := v1284
  let v1286 : Index := Scalar.indexCast v1285
  ![1, 4, v1286.toNat]
def k0_mult11 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_496 : BitVec 32 := 128#32
  let v1293 : BitVec 32 := Scalar.muli arg13 c128_i32_496
  v1293
def k0_off11 (k0_t1 : Fin k0_t1_loop.trips) : Fin 3 → Nat :=
  let c0_497 : Index := 0#32
  let c5 : Index := 5#32
  let c0_i32_459 : BitVec 32 := 0#32
  let c1_i32_461 : BitVec 32 := 1#32
  let arg13 : BitVec 32 := Scf.iv c0_i32_459 c1_i32_461 k0_t1
  let c128_i32_496 : BitVec 32 := 128#32
  let v1293 : BitVec 32 := Scalar.muli arg13 c128_i32_496
  let v1294 : BitVec 32 := v1293
  let v1295 : Index := Scalar.indexCast v1294
  ![0, 5, v1295.toNat]
def k0_mult12 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_498 : BitVec 32 := 128#32
  let v1302 : BitVec 32 := Scalar.muli arg13 c128_i32_498
  v1302
def k0_off12 (k0_t1 : Fin k0_t1_loop.trips) : Fin 3 → Nat :=
  let c1_499 : Index := 1#32
  let c5_500 : Index := 5#32
  let c0_i32_459 : BitVec 32 := 0#32
  let c1_i32_461 : BitVec 32 := 1#32
  let arg13 : BitVec 32 := Scf.iv c0_i32_459 c1_i32_461 k0_t1
  let c128_i32_498 : BitVec 32 := 128#32
  let v1302 : BitVec 32 := Scalar.muli arg13 c128_i32_498
  let v1303 : BitVec 32 := v1302
  let v1304 : Index := Scalar.indexCast v1303
  ![1, 5, v1304.toNat]
def k0_mult13 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_501 : BitVec 32 := 128#32
  let v1311 : BitVec 32 := Scalar.muli arg13 c128_i32_501
  v1311
def k0_off13 (k0_t1 : Fin k0_t1_loop.trips) : Fin 3 → Nat :=
  let c0_502 : Index := 0#32
  let c6 : Index := 6#32
  let c0_i32_459 : BitVec 32 := 0#32
  let c1_i32_461 : BitVec 32 := 1#32
  let arg13 : BitVec 32 := Scf.iv c0_i32_459 c1_i32_461 k0_t1
  let c128_i32_501 : BitVec 32 := 128#32
  let v1311 : BitVec 32 := Scalar.muli arg13 c128_i32_501
  let v1312 : BitVec 32 := v1311
  let v1313 : Index := Scalar.indexCast v1312
  ![0, 6, v1313.toNat]
def k0_mult14 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_503 : BitVec 32 := 128#32
  let v1320 : BitVec 32 := Scalar.muli arg13 c128_i32_503
  v1320
def k0_off14 (k0_t1 : Fin k0_t1_loop.trips) : Fin 3 → Nat :=
  let c1_504 : Index := 1#32
  let c6_505 : Index := 6#32
  let c0_i32_459 : BitVec 32 := 0#32
  let c1_i32_461 : BitVec 32 := 1#32
  let arg13 : BitVec 32 := Scf.iv c0_i32_459 c1_i32_461 k0_t1
  let c128_i32_503 : BitVec 32 := 128#32
  let v1320 : BitVec 32 := Scalar.muli arg13 c128_i32_503
  let v1321 : BitVec 32 := v1320
  let v1322 : Index := Scalar.indexCast v1321
  ![1, 6, v1322.toNat]
def k0_mult15 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_506 : BitVec 32 := 128#32
  let v1329 : BitVec 32 := Scalar.muli arg13 c128_i32_506
  v1329
def k0_off15 (k0_t1 : Fin k0_t1_loop.trips) : Fin 3 → Nat :=
  let c0_507 : Index := 0#32
  let c7 : Index := 7#32
  let c0_i32_459 : BitVec 32 := 0#32
  let c1_i32_461 : BitVec 32 := 1#32
  let arg13 : BitVec 32 := Scf.iv c0_i32_459 c1_i32_461 k0_t1
  let c128_i32_506 : BitVec 32 := 128#32
  let v1329 : BitVec 32 := Scalar.muli arg13 c128_i32_506
  let v1330 : BitVec 32 := v1329
  let v1331 : Index := Scalar.indexCast v1330
  ![0, 7, v1331.toNat]
def k0_mult16 (k0_t1 : Fin k0_t1_loop.trips) : BitVec 32 :=
  let c0_i32_459 : BitVec 32 := 0#32
  let c1_i32_461 : BitVec 32 := 1#32
  let arg13 : BitVec 32 := Scf.iv c0_i32_459 c1_i32_461 k0_t1
  let c128_i32_508 : BitVec 32 := 128#32
  let v1338 : BitVec 32 := Scalar.muli arg13 c128_i32_508
  v1338
def k0_off16 (k0_t1 : Fin k0_t1_loop.trips) : Fin 3 → Nat :=
  let c1_509 : Index := 1#32
  let c7_510 : Index := 7#32
  let c0_i32_459 : BitVec 32 := 0#32
  let c1_i32_461 : BitVec 32 := 1#32
  let arg13 : BitVec 32 := Scf.iv c0_i32_459 c1_i32_461 k0_t1
  let c128_i32_508 : BitVec 32 := 128#32
  let v1338 : BitVec 32 := Scalar.muli arg13 c128_i32_508
  let v1339 : BitVec 32 := v1338
  let v1340 : Index := Scalar.indexCast v1339
  ![1, 7, v1340.toNat]
def k0_cond2 (i : grid0.Coords) : BitVec 1 :=
  let arg0 : BitVec 32 := BitVec.ofNat 32 (i 0).val
  let c7_i32 : BitVec 32 := 7#32
  let v1042 : BitVec 1 := Scalar.cmpi .eq arg0 c7_i32
  let v1043 : BitVec 32 := Scalar.extui v1042
  let c0_i32_345 : BitVec 32 := 0#32
  let v1044 : BitVec 1 := Scalar.cmpi .ne v1043 c0_i32_345
  v1044

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7168x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x8x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x1024x7168 : Shape := ⟨3, ![2, 1024, 7168]⟩
abbrev S2x1024x112 : Shape := ⟨3, ![2, 1024, 112]⟩
abbrev S7168x384 : Shape := ⟨2, ![7168, 384]⟩
abbrev S2x1024x8 : Shape := ⟨3, ![2, 1024, 8]⟩
abbrev S2x1024x8x1 : Shape := ⟨4, ![2, 1024, 8, 1]⟩
abbrev S384 : Shape := ⟨1, ![384]⟩
abbrev S1x1x1x384 : Shape := ⟨4, ![1, 1, 1, 384]⟩
abbrev S2x1024x8x384 : Shape := ⟨4, ![2, 1024, 8, 384]⟩
abbrev S_ : Shape := ⟨0, ![]⟩
abbrev S2x1024x112x64 : Shape := ⟨4, ![2, 1024, 112, 64]⟩
abbrev S2x1024x112x1 : Shape := ⟨4, ![2, 1024, 112, 1]⟩
abbrev S2x1024x384 : Shape := ⟨3, ![2, 1024, 384]⟩
abbrev S2x1024 : Shape := ⟨2, ![2, 1024]⟩
abbrev S2x1024x1 : Shape := ⟨3, ![2, 1024, 1]⟩
abbrev S1x1x384 : Shape := ⟨3, ![1, 1, 384]⟩
abbrev S8x1x256 : Shape := ⟨3, ![8, 1, 256]⟩
abbrev S1x384 : Shape := ⟨2, ![1, 384]⟩

abbrev nBuf : Space → Nat
  | .hbm => 75
  | .vmem => 2
  | .smem => 0
  | _ => 0

abbrev bufTy : (tb : Table) → Fin (tcTables nBuf tb) → BufTy
  | .hbm, ⟨0, _⟩ => ⟨S2x1024x7168, .fp8e4m3⟩
  | .hbm, ⟨1, _⟩ => ⟨S2x1024x112, .f32⟩
  | .hbm, ⟨2, _⟩ => ⟨S7168x384, .bf16⟩
  | .hbm, ⟨3, _⟩ => ⟨S2x1024x8, .i32⟩
  | .hbm, ⟨4, _⟩ => ⟨S2x1024x8x1, .i32⟩
  | .hbm, ⟨5, _⟩ => ⟨S384, .i32⟩
  | .hbm, ⟨6, _⟩ => ⟨S1x1x1x384, .i32⟩
  | .hbm, ⟨7, _⟩ => ⟨S2x1024x8x384, .i32⟩
  | .hbm, ⟨8, _⟩ => ⟨S2x1024x8x384, .i32⟩
  | .hbm, ⟨9, _⟩ => ⟨S2x1024x8x384, .i1⟩
  | .hbm, ⟨10, _⟩ => ⟨S2x1024x8x384, .i32⟩
  | .hbm, ⟨11, _⟩ => ⟨S_, .i32⟩
  | .hbm, ⟨12, _⟩ => ⟨S384, .i32⟩
  | .hbm, ⟨13, _⟩ => ⟨S384, .f32⟩
  | .hbm, ⟨14, _⟩ => ⟨S_, .f32⟩
  | .hbm, ⟨15, _⟩ => ⟨S384, .f32⟩
  | .hbm, ⟨16, _⟩ => ⟨S384, .f32⟩
  | .hbm, ⟨17, _⟩ => ⟨S2x1024x7168, .bf16⟩
  | .hbm, ⟨18, _⟩ => ⟨S2x1024x112x64, .bf16⟩
  | .hbm, ⟨19, _⟩ => ⟨S2x1024x112, .bf16⟩
  | .hbm, ⟨20, _⟩ => ⟨S2x1024x112x1, .bf16⟩
  | .hbm, ⟨21, _⟩ => ⟨S2x1024x112x64, .bf16⟩
  | .hbm, ⟨22, _⟩ => ⟨S2x1024x112x64, .bf16⟩
  | .hbm, ⟨23, _⟩ => ⟨S2x1024x7168, .bf16⟩
  | .hbm, ⟨24, _⟩ => ⟨S2x1024x384, .f32⟩
  | .hbm, ⟨25, _⟩ => ⟨S_, .f32⟩
  | .hbm, ⟨26, _⟩ => ⟨S2x1024, .f32⟩
  | .hbm, ⟨27, _⟩ => ⟨S2x1024x1, .f32⟩
  | .hbm, ⟨28, _⟩ => ⟨S2x1024x384, .f32⟩
  | .hbm, ⟨29, _⟩ => ⟨S2x1024x384, .f32⟩
  | .hbm, ⟨30, _⟩ => ⟨S2x1024x384, .f32⟩
  | .hbm, ⟨31, _⟩ => ⟨S_, .f32⟩
  | .hbm, ⟨32, _⟩ => ⟨S2x1024, .f32⟩
  | .hbm, ⟨33, _⟩ => ⟨S2x1024, .f32⟩
  | .hbm, ⟨34, _⟩ => ⟨S2x1024, .f32⟩
  | .hbm, ⟨35, _⟩ => ⟨S2x1024x1, .f32⟩
  | .hbm, ⟨36, _⟩ => ⟨S2x1024x384, .f32⟩
  | .hbm, ⟨37, _⟩ => ⟨S2x1024x384, .f32⟩
  | .hbm, ⟨38, _⟩ => ⟨S2x1024x384, .f32⟩
  | .hbm, ⟨39, _⟩ => ⟨S_, .f32⟩
  | .hbm, ⟨40, _⟩ => ⟨S384, .f32⟩
  | .hbm, ⟨41, _⟩ => ⟨S_, .f32⟩
  | .hbm, ⟨42, _⟩ => ⟨S384, .f32⟩
  | .hbm, ⟨43, _⟩ => ⟨S384, .f32⟩
  | .hbm, ⟨44, _⟩ => ⟨S1x1x384, .f32⟩
  | .hbm, ⟨45, _⟩ => ⟨S2x1024x384, .f32⟩
  | .hbm, ⟨46, _⟩ => ⟨S2x1024x384, .f32⟩
  | .hbm, ⟨47, _⟩ => ⟨S_, .f32⟩
  | .hbm, ⟨48, _⟩ => ⟨S2x1024, .f32⟩
  | .hbm, ⟨49, _⟩ => ⟨S_, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S2x1024x1, .f32⟩
  | .hbm, ⟨57, _⟩ => ⟨S1x1x384, .f32⟩
  | .hbm, ⟨58, _⟩ => ⟨S2x1024x384, .f32⟩
  | .hbm, ⟨59, _⟩ => ⟨S2x1024x384, .f32⟩
  | .hbm, ⟨60, _⟩ => ⟨S2x1024x384, .f32⟩
  | .hbm, ⟨61, _⟩ => ⟨S_, .f32⟩
  | .hbm, ⟨62, _⟩ => ⟨S2x1024x384, .f32⟩
  | .hbm, ⟨63, _⟩ => ⟨S2x1024x384, .f32⟩
  | .hbm, ⟨64, _⟩ => ⟨S2x1024x1, .f32⟩
  | .hbm, ⟨65, _⟩ => ⟨S_, .f32⟩
  | .hbm, ⟨66, _⟩ => ⟨S2x1024x1, .f32⟩
  | .hbm, ⟨67, _⟩ => ⟨S2x1024x1, .f32⟩
  | .hbm, ⟨68, _⟩ => ⟨S2x1024x384, .f32⟩
  | .hbm, ⟨69, _⟩ => ⟨S2x1024x384, .f32⟩
  | .hbm, ⟨70, _⟩ => ⟨S2x1024x384, .f32⟩
  | .hbm, ⟨71, _⟩ => ⟨S8x1x256, .f32⟩
  | .hbm, ⟨72, _⟩ => ⟨S8x1x256, .f32⟩
  | .hbm, ⟨73, _⟩ => ⟨S1x384, .f32⟩
  | .hbm, ⟨74, _⟩ => ⟨S8x1x256, .f32⟩
  | .local _ .vmem, ⟨0, _⟩ => ⟨S2x1024x7168, .fp8e4m3⟩
  | .local _ .vmem, ⟨1, _⟩ => ⟨S2x1024x7168, .bf16⟩
  | _, _ => ⟨S2x1024x7168, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KBody.lean ====
module
public import proofs.«01_k».proof.Proof.Gen.KernelIdeal.Frame
public import Idealize.ShloMosaic.Lib.Pipeline.ValueKit
public import Idealize.ShloMosaic.Lib.Pipeline.ReadBack

/-! The kernel's body at one grid point, written with named parts: the products of one chunk of 256
    columns, the logits as the sum of 28 chunks, the softmax parts of the logits, and what each of
    the three cases of a point leaves in the outputs and in the carried scratch. -/

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The lane index of the scale of each lane: the half's number plus `k`, wrapped if negative. -/
def gidx (v34 : IVec S256x128 32) (k : BitVec 32) : IVec S256x128 32 :=
  select (cmpi .slt (addi v34 (broadcast S256x128 k)) (broadcast S256x128 0#32))
    (addi (addi v34 (broadcast S256x128 k)) (broadcast S256x128 128#32)) (addi v34 (broadcast S256x128 k))

/-- 128 columns of the dequantized codes: the codes times their gathered scales. -/
def piece (v9 : FVec F S256x128 .f32) (v34 : IVec S256x128 32) (k : BitVec 32) (x : Vec F S1x256x128 .fp8e4m3) :
    FVec F S256x128 .bf16 :=
  mulf (extf .bf16 (shapeCast S256x128 x shapeCasts_S1x256x128_S256x128 : FVec F S256x128 .fp8e4m3) bitsLt_fp8e4m3_bf16)
    (truncf .bf16 (dynamicGather 1 v9 (shapeCast S256x128
      (shapeCast S256x128x1 (gidx v34 k) shapeCasts_S256x128_S256x128x1) shapeCasts_S256x128x1_S256x128) : FVec F S256x128 .f32) bitsLt_bf16_f32)

/-- The product of 256 columns: router weights times dequantized codes. -/
def chunk (v9 : FVec F S256x128 .f32) (v34 : IVec S256x128 32) (ka kb : BitVec 32)
    (xa xb : Vec F S1x256x128 .fp8e4m3) (w : FVec F S384x256 .bf16) : FVec F S384x256 .f32 :=
  matmul dot_S384x256_S256x256_S384x256_1_1_0_0_n_n none w
    (concatenate S256x256 1 [⟨S256x128, piece v9 v34 ka xa⟩, ⟨S256x128, piece v9 v34 kb xb⟩]
      concatenates_S256x128_S256x128_S256x256_d1 : FVec F S256x256 .bf16)
    (constant S384x256 .f32 0x00000000#32 : FVec F S384x256 .f32)

/-- 128 columns of codes at column `n` past `k` lie in the block. -/
theorem inbX (n k : ℕ) (h : n + k ≤ 7168 - 128) :
    ∀ a : Fin S1x256x7168.rank, (![0, 0, n + k] : Fin 3 → ℕ) a + S1x256x128.size a ≤ S1x256x7168.size a := fun a =>
  match a with
  | ⟨0, _⟩ => (by decide : 0 + 1 ≤ 1)
  | ⟨1, _⟩ => (by decide : 0 + 256 ≤ 256)
  | ⟨2, _⟩ => (by omega : n + k + 128 ≤ 7168)

/-- Column block `n` of 256 lies in the transposed weights. -/
theorem inbW (n : ℕ) (h : n < 28) :
    ∀ a : Fin S384x7168.rank, (![0, 256 * n] : Fin 2 → ℕ) a + S384x256.size a ≤ S384x7168.size a := fun a =>
  match a with
  | ⟨0, _⟩ => (by decide : 0 + 384 ≤ 384)
  | ⟨1, _⟩ => (by omega : 256 * n + 256 ≤ 7168)

/-- Row block `n` of 256 lies in the weights. -/
theorem inbV (n : ℕ) (h : n < 28) :
    ∀ a : Fin S7168x384.rank, (![256 * n, 0] : Fin 2 → ℕ) a + S256x384.size a ≤ S7168x384.size a := fun a =>
  match a with
  | ⟨0, _⟩ => (by omega : 256 * n + 256 ≤ 7168)
  | ⟨1, _⟩ => (by decide : 0 + 384 ≤ 384)

/-- 128 columns of a block of codes. -/
def ldX (x0 : Vec F S1x256x7168 .fp8e4m3) (n k : ℕ) (h : n + k ≤ 7168 - 128) : Vec F S1x256x128 .fp8e4m3 :=
  View.ld x0 (Rect.unit (s := S1x256x7168) ![0, 0, n + k] S1x256x128.size (inbX n k h))

/-- 256 columns of the transposed weights. -/
def ldW (w : Vec F S384x7168 .bf16) (n : ℕ) (h : n < 28) : FVec F S384x256 .bf16 :=
  View.ld w (Rect.unit (s := S384x7168) ![0, 256 * n] S384x256.size (inbW n h))

/-- The sum of the first `n` chunks, over a way `wl` to read the weights' chunks. -/
def Zr (v9 : FVec F S256x128 .f32) (v34 : IVec S256x128 32) (x0 : Vec F S1x256x7168 .fp8e4m3)
    (wl : (n : ℕ) → n < 28 → FVec F S384x256 .bf16) : (n : ℕ) → n ≤ 28 → FVec F S384x256 .f32
  | 0, _ => k0_pay45
  | n + 1, h => addf (Zr v9 v34 x0 wl n (by omega))
      (chunk v9 v34 (BitVec.ofNat 32 (4 * n)) (BitVec.ofNat 32 (4 * n + 2)) (ldX x0 (256 * n) 0 (by omega))
        (ldX x0 (256 * n) 128 (by omega)) (wl n (by omega)))

/-- The logits of a block: the sum of all 28 chunks. -/
def Z (x0 : Vec F S1x256x7168 .fp8e4m3) (x1 : Vec F S1x112x256 .f32) (wl : (n : ℕ) → n < 28 → FVec F S384x256 .bf16) :
    FVec F S384x256 .f32 := Zr (k0_pay43 x1) k0_pay44 x0 wl 28 (le_refl _)

/-- The largest logit of each token. -/
def Mz (z : FVec F S384x256 .f32) : FVec F S1x256 .f32 :=
  shapeCast S1x256 (multiReduction .maximumf [0] S256 z 0xFF800000#32 reduces_S384x256_S256 (.inl rfl) rfl) shapeCasts_S256_S1x256
/-- The exponentials of the shifted logits. -/
def Ez (z : FVec F S384x256 .f32) : FVec F S384x256 .f32 :=
  exp (subf z (broadcastTo S384x256 (Mz z) broadcasts_S1x256_S384x256))
/-- Their sum over the experts. -/
def Tz (z : FVec F S384x256 .f32) : FVec F S1x256 .f32 :=
  shapeCast S1x256 (multiReduction .add [0] S256 (Ez z) 0x00000000#32 reduces_S384x256_S256 (.inl rfl) rfl) shapeCasts_S256_S1x256
/-- The log of the sum of the exponentials. -/
def Lz (z : FVec F S384x256 .f32) : FVec F S1x256 .f32 := addf (Mz z) (log (Tz z))
/-- The softmax of the logits. -/
def Pz (z : FVec F S384x256 .f32) : FVec F S384x256 .f32 :=
  mulf (Ez z) (broadcastTo S384x256 (divf (broadcast S1x256 (Scalar.ofBits .f32 0x3F800000#32 : F .f32)) (Tz z)) broadcasts_S1x256_S384x256)

/-- The first lane of the scratch that holds the experts' frequencies. -/
def ldF (f : Vec F S384x128 .f32) : Vec F S384x1 .f32 :=
  View.ld f (Rect.unit (s := S384x128) ![0, 0] S384x1.size inb_S384x128_S384x1_0_0)

/-! ## The count loop -/

/-- A row of 128 choices lies in the choices. -/
theorem inbI (a b n : ℕ) (ha : a < 2) (hb : b < 8) (hn : n < 8) :
    ∀ d : Fin S2x8x1024.rank, (![a, b, 128 * n] : Fin 3 → ℕ) d + S1x1x128.size d ≤ S2x8x1024.size d := fun d =>
  match d with
  | ⟨0, _⟩ => (by omega : a + 1 ≤ 2)
  | ⟨1, _⟩ => (by omega : b + 1 ≤ 8)
  | ⟨2, _⟩ => (by omega : 128 * n + 128 ≤ 1024)

/-- 128 expert numbers: of batch `a`, choice `b`, tokens `128 n …`. -/
def ldI (x3 : Vec F S2x8x1024 .i32) (a b n : ℕ) (ha : a < 2) (hb : b < 8) (hn : n < 8) : Vec F S1x1x128 .i32 :=
  View.ld x3 (Rect.unit (s := S2x8x1024) ![a, b, 128 * n] S1x1x128.size (inbI a b n ha hb hn))

/-- One where a lane's expert number is the row's, zero elsewhere. -/
def hit (v : Vec F S1x1x128 .i32) : IVec S384x128 32 :=
  extui 32 (cmpi .eq (iota .tc S384x128 32 [0] iota_S384x128_d0_w32)
    (broadcastTo S384x128 (shapeCast S1x128 v shapeCasts_S1x1x128_S1x128 : IVec S1x128 32) broadcasts_S1x128_S384x128)) natLt_1_32

/-- The first `j` of a trip's sixteen additions. -/
def cs (x3 : Vec F S2x8x1024 .i32) (n : ℕ) (hn : n < 8) (acc : IVec S384x128 32) : (j : ℕ) → j ≤ 16 → IVec S384x128 32
  | 0, _ => acc
  | j + 1, h => addi (cs x3 n hn acc j (by omega)) (hit (ldI x3 (j % 2) (j / 2) n (by omega) (by omega) hn))

/-- The counts, lane by lane, before trip `n`. -/
def cnt (x3 : Vec F S2x8x1024 .i32) : (n : ℕ) → n ≤ 8 → IVec S384x128 32
  | 0, _ => k0_pay38
  | n + 1, h => cs x3 n (by omega) (cnt x3 n (by omega)) 16 (le_refl _)

/-- The count loop makes eight trips. -/
theorem trips8 : k0_t1_loop.trips = 8 := by decide +kernel

/-- A load of choices depends on its offsets only. -/
theorem ldI_off (x3 : Vec F S2x8x1024 .i32) {off : Fin 3 → ℕ} {a b n : ℕ} (h : off = ![a, b, 128 * n])
    (ha : a < 2) (hb : b < 8) (hn : n < 8) :
    ldI x3 a b n ha hb hn = View.ld x3 (Rect.unit (s := S2x8x1024) off S1x1x128.size (h ▸ inbI a b n ha hb hn)) := by
  subst h; rfl

/-- The sixteen comparisons of a trip, one after another. -/
theorem cs_sixteen (x3 : Vec F S2x8x1024 .i32) (n : ℕ) (hn : n < 8) (acc : IVec S384x128 32) :
    cs x3 n hn acc 16 (le_refl _) = addi (addi (addi (addi (addi (addi (addi (addi (addi (addi (addi (addi (addi (addi (addi (addi (acc) (hit (ldI x3 0 0 n (by decide) (by decide) hn))) (hit (ldI x3 1 0 n (by decide) (by decide) hn))) (hit (ldI x3 0 1 n (by decide) (by decide) hn))) (hit (ldI x3 1 1 n (by decide) (by decide) hn))) (hit (ldI x3 0 2 n (by decide) (by decide) hn))) (hit (ldI x3 1 2 n (by decide) (by decide) hn))) (hit (ldI x3 0 3 n (by decide) (by decide) hn))) (hit (ldI x3 1 3 n (by decide) (by decide) hn))) (hit (ldI x3 0 4 n (by decide) (by decide) hn))) (hit (ldI x3 1 4 n (by decide) (by decide) hn))) (hit (ldI x3 0 5 n (by decide) (by decide) hn))) (hit (ldI x3 1 5 n (by decide) (by decide) hn))) (hit (ldI x3 0 6 n (by decide) (by decide) hn))) (hit (ldI x3 1 6 n (by decide) (by decide) hn))) (hit (ldI x3 0 7 n (by decide) (by decide) hn))) (hit (ldI x3 1 7 n (by decide) (by decide) hn)) := rfl

/-- Load 1 of a trip reads choice 0 of sequence 0. -/
theorem off1 : ∀ k : Fin k0_t1_loop.trips, k0_off1 k = ![0, 0, 128 * k.val] := by decide +kernel
/-- Load 2 of a trip reads choice 0 of sequence 1. -/
theorem off2 : ∀ k : Fin k0_t1_loop.trips, k0_off2 k = ![1, 0, 128 * k.val] := by decide +kernel
/-- Load 3 of a trip reads choice 1 of sequence 0. -/
theorem off3 : ∀ k : Fin k0_t1_loop.trips, k0_off3 k = ![0, 1, 128 * k.val] := by decide +kernel
/-- Load 4 of a trip reads choice 1 of sequence 1. -/
theorem off4 : ∀ k : Fin k0_t1_loop.trips, k0_off4 k = ![1, 1, 128 * k.val] := by decide +kernel
/-- Load 5 of a trip reads choice 2 of sequence 0. -/
theorem off5 : ∀ k : Fin k0_t1_loop.trips, k0_off5 k = ![0, 2, 128 * k.val] := by decide +kernel
/-- Load 6 of a trip reads choice 2 of sequence 1. -/
theorem off6 : ∀ k : Fin k0_t1_loop.trips, k0_off6 k = ![1, 2, 128 * k.val] := by decide +kernel
/-- Load 7 of a trip reads choice 3 of sequence 0. -/
theorem off7 : ∀ k : Fin k0_t1_loop.trips, k0_off7 k = ![0, 3, 128 * k.val] := by decide +kernel
/-- Load 8 of a trip reads choice 3 of sequence 1. -/
theorem off8 : ∀ k : Fin k0_t1_loop.trips, k0_off8 k = ![1, 3, 128 * k.val] := by decide +kernel
/-- Load 9 of a trip reads choice 4 of sequence 0. -/
theorem off9 : ∀ k : Fin k0_t1_loop.trips, k0_off9 k = ![0, 4, 128 * k.val] := by decide +kernel
/-- Load 10 of a trip reads choice 4 of sequence 1. -/
theorem off10 : ∀ k : Fin k0_t1_loop.trips, k0_off10 k = ![1, 4, 128 * k.val] := by decide +kernel
/-- Load 11 of a trip reads choice 5 of sequence 0. -/
theorem off11 : ∀ k : Fin k0_t1_loop.trips, k0_off11 k = ![0, 5, 128 * k.val] := by decide +kernel
/-- Load 12 of a trip reads choice 5 of sequence 1. -/
theorem off12 : ∀ k : Fin k0_t1_loop.trips, k0_off12 k = ![1, 5, 128 * k.val] := by decide +kernel
/-- Load 13 of a trip reads choice 6 of sequence 0. -/
theorem off13 : ∀ k : Fin k0_t1_loop.trips, k0_off13 k = ![0, 6, 128 * k.val] := by decide +kernel
/-- Load 14 of a trip reads choice 6 of sequence 1. -/
theorem off14 : ∀ k : Fin k0_t1_loop.trips, k0_off14 k = ![1, 6, 128 * k.val] := by decide +kernel
/-- Load 15 of a trip reads choice 7 of sequence 0. -/
theorem off15 : ∀ k : Fin k0_t1_loop.trips, k0_off15 k = ![0, 7, 128 * k.val] := by decide +kernel
/-- Load 16 of a trip reads choice 7 of sequence 1. -/
theorem off16 : ∀ k : Fin k0_t1_loop.trips, k0_off16 k = ![1, 7, 128 * k.val] := by decide +kernel

/-- One trip of the count loop adds the sixteen matches. -/
theorem trip_eq (𝒱 : Variants) (c : Dev nD) (bd : Option 𝒱.V) (i : grid0.Coords) (arg1 : Memref sig .tc .vmem S1x256x7168 .fp8e4m3) (harg1 : arg1.IsWhole) (arg2 : Memref sig .tc .vmem S1x112x256 .f32) (harg2 : arg2.IsWhole) (arg3 : Memref sig .tc .vmem S7168x384 .bf16) (harg3 : arg3.IsWhole) (arg4 : Memref sig .tc .vmem S2x8x1024 .i32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x384 .f32) (harg7 : arg7.IsWhole) (arg8 : Memref sig .tc .vmem S1x1x256 .f32) (harg8 : arg8.IsWhole) (arg9 : Memref sig .tc .vmem S1x256x384 .f32) (harg9 : arg9.IsWhole) (arg10 : Memref sig .tc .vmem S384x7168 .bf16) (harg10 : arg10.IsWhole) (arg11 : Memref sig .tc .vmem S384x128 .f32) (harg11 : arg11.IsWhole) (arg12 : Memref sig .tc .vmem S384x128 .f32) (harg12 : arg12.IsWhole) (k0_h1 : k0_cond1 i = 1#1) (x3 : Vec F S2x8x1024 .i32)
    (k : Fin k0_t1_loop.trips) (acc : IVec S384x128 32) (hk : k.val < 8) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 k0_h1 (iota .tc S384x128 32 [0] iota_S384x128_d0_w32) (harg4.unread x3) k acc = cs x3 k.val hk acc 16 (le_refl _) := by
  unfold tripR_k0_t1 trip_k0_t1
  dsimp only
  sl_unfold_words
  simp only [View.readAt_eq_ld, Memref.IsWhole.read_unread]
  rw [cs_sixteen, ldI_off x3 (off1 k), ldI_off x3 (off2 k), ldI_off x3 (off3 k), ldI_off x3 (off4 k), ldI_off x3 (off5 k), ldI_off x3 (off6 k), ldI_off x3 (off7 k), ldI_off x3 (off8 k), ldI_off x3 (off9 k), ldI_off x3 (off10 k), ldI_off x3 (off11 k), ldI_off x3 (off12 k), ldI_off x3 (off13 k), ldI_off x3 (off14 k), ldI_off x3 (off15 k), ldI_off x3 (off16 k)]
  rfl

/-- The count loop's state after `n` trips. -/
theorem st_eq (𝒱 : Variants) (c : Dev nD) (bd : Option 𝒱.V) (i : grid0.Coords) (arg1 : Memref sig .tc .vmem S1x256x7168 .fp8e4m3) (harg1 : arg1.IsWhole) (arg2 : Memref sig .tc .vmem S1x112x256 .f32) (harg2 : arg2.IsWhole) (arg3 : Memref sig .tc .vmem S7168x384 .bf16) (harg3 : arg3.IsWhole) (arg4 : Memref sig .tc .vmem S2x8x1024 .i32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x384 .f32) (harg7 : arg7.IsWhole) (arg8 : Memref sig .tc .vmem S1x1x256 .f32) (harg8 : arg8.IsWhole) (arg9 : Memref sig .tc .vmem S1x256x384 .f32) (harg9 : arg9.IsWhole) (arg10 : Memref sig .tc .vmem S384x7168 .bf16) (harg10 : arg10.IsWhole) (arg11 : Memref sig .tc .vmem S384x128 .f32) (harg11 : arg11.IsWhole) (arg12 : Memref sig .tc .vmem S384x128 .f32) (harg12 : arg12.IsWhole) (k0_h1 : k0_cond1 i = 1#1) (x3 : Vec F S2x8x1024 .i32) :
    ∀ (n : ℕ) (h : n ≤ 8), st_k0_t1 (F := F) 𝒱 c bd i arg1 harg1 arg2 harg2 arg3 harg3 arg4 harg4 arg5 harg5 arg6 harg6 arg7 harg7 arg8 harg8 arg9 harg9 arg10 harg10 arg11 harg11 arg12 harg12 k0_h1 (iota .tc S384x128 32 [0] iota_S384x128_d0_w32) (harg4.unread x3) k0_pay38 n = cnt x3 n h
  | 0, _ => st_k0_t1_zero ..
  | n + 1, h => by
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 k0_h1 (iota .tc S384x128 32 [0] iota_S384x128_d0_w32) (harg4.unread x3) k0_pay38 ⟨n, by rw [trips8]; omega⟩
    rw [trip_eq (F := F) _ _ _ _ _ _ _ _ _ _ _ _ _ _ _ _ _ _ _ _ _ _ _ _ _ _ _ _ _ x3 _ _ (by omega : n < 8)] at e
    rw [st_eq _ _ _ _ _ _ _ _ _ _ _ _ _ _ _ _ _ _ _ _ _ _ _ _ _ _ _ _ _ x3 n (by omega)] at e
    exact e

/-- The frequencies that the first point leaves in the scratch. -/
def FV (x3 : Vec F S2x8x1024 .i32) : Vec F S384x128 .f32 := k0_pay41 (k0_pay40 (cnt x3 8 (le_refl _)))

/-! ## The transposed weights -/

/-- The store of one transposed block of the weights. -/
def wp (x2 : Vec F S7168x384 .bf16) (n : ℕ) (h : n < 28) : View.Piece (Elt F) S384x7168 .bf16 :=
  ⟨Rect.unit (s := S384x7168) ![0, 256 * n] S384x256.size (inbW n h),
    shapeCast S384x256 (transpose S384x256 [1, 0] (View.ld x2 (Rect.unit (s := S7168x384) ![256 * n, 0] S256x384.size (inbV n h)) : FVec F S256x384 .bf16)
      transposes_S256x384_p1_0_S384x256) shapeCasts_S384x256_S384x256⟩

/-- The first `n` of those stores, the last first. -/
def wps (x2 : Vec F S7168x384 .bf16) : (n : ℕ) → n ≤ 28 → List (View.Piece (Elt F) S384x7168 .bf16)
  | 0, _ => []
  | n + 1, h => wp x2 n (by omega) :: wps x2 n (by omega)

/-- What those stores leave. -/
def WT (x2 : Vec F S7168x384 .bf16) : Vec F S384x7168 .bf16 := View.canon (wps x2 28 (le_refl _))

/-! ## What the points leave -/

variable (m : (ℓ : Loc nD τ sig) → Buf (Elt F) ℓ)

/-- The logits at a point, over the transposed weights that the scratch holds. -/
def Zt (c : Dev nD) (t : Fin cfg0.N) (w : Vec F S384x7168 .bf16) : FVec F S384x256 .f32 :=
  Z (iblk m c 0 t) (iblk m c 1 t) (ldW w)

/-- What a point leaves in the outputs (but the third) and in the scratch, from the transposed weights
    `w`, the frequencies `f` and the sums `p`. -/
def Leaves (c : Dev nD) (t : Fin cfg0.N) (w : Vec F S384x7168 .bf16) (f p : Vec F S384x128 .f32)
    (o : Vec F S1x1x256 .f32 × Vec F S1x1x256 .f32 × Vec F S1x384 .f32 × Vec F S1x1x256 .f32 × Vec F S1x256x384 .f32 × Vec F S384x7168 .bf16 × Vec F S384x128 .f32 × Vec F S384x128 .f32) : Prop :=
  o.1 = k0_pay120 (Pz (Zt m c t w)) (ldF f) ∧ o.2.1 = k0_pay1 (k0_pay121 (Lz (Zt m c t w)))
  ∧ o.2.2.2.1 = k0_pay2 (Lz (Zt m c t w)) ∧ o.2.2.2.2.1 = k0_pay119 (Lz (Zt m c t w)) (Pz (Zt m c t w)) (ldF f)
  ∧ o.2.2.2.2.2.1 = w ∧ o.2.2.2.2.2.2.1 = f ∧ o.2.2.2.2.2.2.2 = k0_pay118 (Pz (Zt m c t w)) p

set_option maxHeartbeats 1000000 in
/-- What a middle point leaves, over what the point before left. -/
theorem leaves_mid (c : Dev nD) (t : Fin cfg0.N) (h0 : ¬t.val % 8 = 0) (h1 : ¬t.val % 8 = 7) (q)
    (hq : q = outsAt0 m c (t.val - 1) (Nat.lt_of_le_of_lt (Nat.sub_le _ _) t.isLt)) :
    Leaves m c t q.2.2.2.2.2.1 q.2.2.2.2.2.2.1 q.2.2.2.2.2.2.2 (outsAt0 m c t.val t.isLt) := by
  rw [outsAt0_B m c t h0 h1, ← hq]
  unfold Leaves Zt Z
  refine ⟨?_, ?_, ?_, ?_, ?_, ?_, ?_⟩ <;>
  · frame_out
    generalize iblk m c 1 t = x1
    generalize iblk m c 0 t = x0
    generalize q.2.2.2.2.2.1 = w
    generalize q.2.2.2.2.2.2.1 = f
    generalize q.2.2.2.2.2.2.2 = p
    try simp only [read_unread_whole]
    try generalize k0_pay43 x1 = v9
    first | done | rfl

set_option maxHeartbeats 1000000 in
/-- What the last point leaves, over what the point before left. -/
theorem leaves_last (c : Dev nD) (t : Fin cfg0.N) (h0 : ¬t.val % 8 = 0) (h1 : t.val % 8 = 7) (q)
    (hq : q = outsAt0 m c (t.val - 1) (Nat.lt_of_le_of_lt (Nat.sub_le _ _) t.isLt)) :
    Leaves m c t q.2.2.2.2.2.1 q.2.2.2.2.2.2.1 q.2.2.2.2.2.2.2 (outsAt0 m c t.val t.isLt) := by
  rw [outsAt0_C m c t h0 h1, ← hq]
  unfold Leaves Zt Z
  refine ⟨?_, ?_, ?_, ?_, ?_, ?_, ?_⟩ <;>
  · frame_out
    generalize iblk m c 1 t = x1
    generalize iblk m c 0 t = x0
    generalize q.2.2.2.2.2.1 = w
    generalize q.2.2.2.2.2.2.1 = f
    generalize q.2.2.2.2.2.2.2 = p
    try simp only [read_unread_whole]
    try generalize k0_pay43 x1 = v9
    first | done | rfl

/-- What the last point leaves in the third output: the means, from the sums it leaves in the scratch. -/
theorem leaves_last_P (c : Dev nD) (t : Fin cfg0.N) (h0 : ¬t.val % 8 = 0) (h1 : t.val % 8 = 7) :
    (outsAt0 m c t.val t.isLt).2.2.1 = k0_pay3 (outsAt0 m c t.val t.isLt).2.2.2.2.2.2.2 := by
  rw [outsAt0_C m c t h0 h1]
  frame_out
  try rfl

/-- A load of the transposed weights after they are stored reads what was stored. -/
theorem read_wps (x2 : Vec F S7168x384 .bf16) (r : Rect S384x7168) :
    (View.whole cc0_scratch0).readCov (wps x2 28 (le_refl _)) r.toLoadRect = View.ld (WT x2) r :=
  View.readCov_eq_canon' _ _ _

/-- A load of the frequencies after they are stored reads what was stored. -/
theorem read_fv (f : Vec F S384x128 .f32) (inb) (r : Rect S384x128) :
    (View.whole cc0_scratch1).readCov ([⟨Rect.unit (s := S384x128) ![0, 0] ![384, 128] inb, f⟩] : List (View.Piece (Elt F) S384x128 .f32)) r.toLoadRect = View.ld f r :=
  View.readCov_fill _ inb f _ r (by decide)

set_option maxHeartbeats 1000000 in
/-- What the first point leaves. -/
theorem leaves_first (c : Dev nD) (t : Fin cfg0.N) (h0 : t.val % 8 = 0) (h1 : ¬t.val % 8 = 7) (w f)
    (hw : WT (iblk m c 2 t) = w) (hf : FV (iblk m c 3 t) = f) :
    Leaves m c t w f k0_pay42 (outsAt0 m c t.val t.isLt) := by
  rw [outsAt0_A m c t h0 h1]
  unfold Leaves Zt Z
  refine ⟨?_, ?_, ?_, ?_, ?_, ?_, ?_⟩
  case refine_5 =>
    frame_out
    exact Eq.trans rfl hw
  case refine_6 =>
    frame_out
    rw [show Scf.trips (0#32) (Scalar.addi 0#32 8#32) 1#32 = 8 from by decide +kernel, st_eq (h := le_refl 8)]
    exact hf
  all_goals
    frame_out
    try rw [show Scf.trips (0#32) (Scalar.addi 0#32 8#32) 1#32 = 8 from by decide +kernel, st_eq (h := le_refl 8), show k0_pay41 (k0_pay40 (cnt (iblk m c 3 t) 8 (le_refl 8))) = f from hf]
    generalize iblk m c 1 t = x1
    generalize iblk m c 0 t = x0
    generalize iblk m c 2 t = x2 at hw ⊢
    generalize hL : ([_, _, _, _, _, _, _, _, _, _, _, _, _, _, _, _, _, _, _, _, _, _, _, _, _, _, _, _] : List (View.Piece (Elt F) S384x7168 .bf16)) = L
    have e : L = wps x2 28 (le_refl _) := hL.symm.trans rfl
    subst e
    clear hL
    simp only [read_wps, hw]
    try rw [read_fv]
    generalize k0_pay43 x1 = v9
    first | done | rfl

end Cert.KernelIdeal.Body

end
-- ==== Proof.Spec.lean ====
module
public import Idealize.ShloMosaic.Lib.Pipeline.ValueKit

/-! The router's auxiliary losses over the extended reals: the softmax of a row of 384 logits as both
    programs spell it, the frequencies of the experts, and the five results, entry by entry. -/

@[expose] public section

noncomputable section

namespace Router

open Idealize.ShloMosaic

/-! ## A row of logits -/

/-- The largest of a row of logits. -/
def top (z : Fin 384 → EReal) : EReal := Finset.univ.fold max (Ideal.ofBits .f32 0xFF800000#32) z

/-- The sum of the exponentials of the shifted logits. -/
def tot (z : Fin 384 → EReal) : EReal := ∑ e, Ideal.exp (z e - top z)

/-- The log of that sum. -/
def logTot (z : Fin 384 → EReal) : EReal := Ideal.log (tot z)

/-- The log of the sum of the exponentials of a row. -/
def lse (z : Fin 384 → EReal) : EReal := logTot z + top z

/-- The softmax of a row. -/
def prob (z : Fin 384 → EReal) (e : Fin 384) : EReal := Ideal.exp (z e - top z - logTot z)

/-- The pattern that the maximum starts from is minus infinity. -/
theorem negInf : Ideal.ofBits .f32 0xFF800000#32 = (⊥ : EReal) := by simp [Ideal.ofBits, Ideal.ieee]

/-- The maximum is the supremum. -/
theorem top_eq (z : Fin 384 → EReal) : top z = Finset.univ.sup z := by
  unfold top; rw [negInf]; rfl

/-- No logit exceeds the maximum. -/
theorem le_top (z : Fin 384 → EReal) (e : Fin 384) : z e ≤ top z := by
  rw [top_eq]; exact Finset.le_sup (Finset.mem_univ e)

/-- Some logit is the maximum. -/
theorem exists_top (z : Fin 384 → EReal) : ∃ e, top z = z e := by
  obtain ⟨e, -, h⟩ := Finset.exists_mem_eq_sup Finset.univ ⟨(0 : Fin 384), Finset.mem_univ _⟩ z
  exact ⟨e, by rw [top_eq, h]⟩

/-- Where the largest logit is infinite every exponential is zero. -/
theorem exp_of_inf (z : Fin 384 → EReal) (h : top z = ⊥ ∨ top z = ⊤) (e : Fin 384) : z e - top z = ⊥ := by
  rcases h with h | h
  · have := le_top z e
    rw [h] at this ⊢
    rw [le_bot_iff.1 this]; rfl
  · rw [h, sub_eq_add_neg, EReal.neg_top, EReal.add_bot]

/-- Where it is a real number, so is every exponential, and the sum of them is positive. -/
theorem tot_of_real (z : Fin 384 → EReal) (r : ℝ) (h : top z = r) :
    ∃ T : ℝ, 0 < T ∧ tot z = T ∧ ∀ e, z e = ⊥ ∨ ∃ x : ℝ, z e = x := by
  have hz : ∀ e, z e = ⊥ ∨ ∃ x : ℝ, z e = x := fun e => by
    have := le_top z e
    rw [h] at this
    generalize z e = x at this
    induction x using EReal.rec with
    | bot => exact .inl rfl
    | coe x => exact .inr ⟨x, rfl⟩
    | top => exact absurd (top_le_iff.1 this) (EReal.coe_ne_top r)
  have ha : ∀ e, ∃ a : ℝ, 0 ≤ a ∧ Ideal.exp (z e - top z) = a := fun e => by
    rcases hz e with hb | ⟨x, hx⟩
    · exact ⟨0, le_rfl, by rw [hb, sub_eq_add_neg, EReal.bot_add]; simp⟩
    · exact ⟨Real.exp (x - r), (Real.exp_pos _).le, by rw [hx, h, ← EReal.coe_sub, Ideal.exp_coe]⟩
  choose a ha0 hae using ha
  refine ⟨∑ e, a e, ?_, ?_, hz⟩
  · obtain ⟨e, he⟩ := exists_top z
    refine Finset.sum_pos' (fun i _ => ha0 i) ⟨e, Finset.mem_univ e, ?_⟩
    have : Ideal.exp (z e - top z) = (1 : ℝ) := by
      rw [← he, h, ← EReal.coe_sub, Ideal.exp_coe, sub_self, Real.exp_zero]
    rw [hae e] at this
    rw [EReal.coe_injective this]; exact one_pos
  · unfold tot
    rw [Finset.sum_congr rfl fun e _ => hae e]
    exact (map_sum (⟨⟨((↑) : ℝ → EReal), EReal.coe_zero⟩, EReal.coe_add⟩ : ℝ →+ EReal) a Finset.univ).symm

/-- The softmax as the exponential times the reciprocal of the sum. -/
theorem exp_mul_div (z : Fin 384 → EReal) (u : Fin 384) :
    Ideal.exp (z u - top z) * Ideal.div 1 (tot z) = prob z u := by
  unfold prob logTot
  by_cases h : top z = ⊥ ∨ top z = ⊤
  · rw [exp_of_inf z h u, Ideal.exp_bot, zero_mul, sub_eq_add_neg, EReal.bot_add, Ideal.exp_bot]
  · push Not at h
    obtain ⟨r, hr⟩ : ∃ r : ℝ, top z = r := by
      generalize top z = m at h
      induction m using EReal.rec with
      | bot => exact absurd rfl h.1
      | coe x => exact ⟨x, rfl⟩
      | top => exact absurd rfl h.2
    obtain ⟨T, hT, ht, hz⟩ := tot_of_real z r hr
    rw [ht, hr, Ideal.log_coe, if_neg (not_le.2 hT), Ideal.div_coe hT.ne']
    rcases hz u with hb | ⟨x, hx⟩
    · rw [hb, sub_eq_add_neg ⊥, EReal.bot_add, Ideal.exp_bot, zero_mul, sub_eq_add_neg, EReal.bot_add, Ideal.exp_bot]
    · rw [hx, ← EReal.coe_sub, ← EReal.coe_sub, Ideal.exp_coe, Ideal.exp_coe, one_mul, ← EReal.coe_mul,
        Real.exp_sub (x - r), Real.exp_log hT, mul_one_div]

/-- The log-sum-exp with the summands in the other order. -/
theorem top_add_log (z : Fin 384 → EReal) : top z + Ideal.log (tot z) = lse z := by
  unfold lse logTot; rw [add_comm]

/-! ## Logits, frequencies and results -/

/-- One logit of a token: its codes times their block's scales, against an expert's weights. -/
def logit (x : Fin 7168 → EReal) (s : Fin 112 → EReal) (w : Fin 7168 → Fin 384 → EReal) (e : Fin 384) : EReal :=
  ∑ d : Fin 7168, x d * s ⟨d.val / 64, by omega⟩ * w d e

/-- The logits of token `s` of batch `b`, from the four arrays' first three. -/
def rows (x : (⟨3, ![2, 1024, 7168]⟩ : Shape).Idx → EReal) (sc : (⟨3, ![2, 1024, 112]⟩ : Shape).Idx → EReal)
    (w : (⟨2, ![7168, 384]⟩ : Shape).Idx → EReal) (b : Fin 2) (s : Fin 1024) : Fin 384 → EReal :=
  logit (fun d => x (ix3 b s d)) (fun k => sc (ix3 b s k)) (fun d e => w (ix2 d e))

/-- How many of the choices name expert `e`. -/
def count (ids : Fin 2 → Fin 1024 → Fin 8 → BitVec 32) (e : Fin 384) : ℕ :=
  ∑ b, ∑ s, ∑ k, if BitVec.ofNat 32 e.val = ids b s k then 1 else 0

/-- The frequency of expert `e` among the choices. -/
def freq (ids : Fin 2 → Fin 1024 → Fin 8 → BitVec 32) (e : Fin 384) : EReal :=
  Ideal.div ((count ids e : ℝ) : EReal) (Ideal.ofBits .f32 0x46800000#32)

/-- The experts' frequencies, from the array of choices. -/
def freqs (ids : (⟨3, ![2, 1024, 8]⟩ : Shape).Idx → BitVec 32) (e : Fin 384) : EReal := freq (fun b s k => ids (ix3 b s k)) e

/-- The frequencies weighted by a row's softmax. -/
def gate (z f : Fin 384 → EReal) : EReal := ∑ e, prob z e * f e

/-- A token's auxiliary term. -/
def auxTerm (z f : Fin 384 → EReal) : EReal := Ideal.ofBits .f32 0x3AF5C28F#32 * gate z f

/-- A token's z term. -/
def zTerm (z : Fin 384 → EReal) : EReal := Ideal.ofBits .f32 0x3503126F#32 * lse z * lse z

/-- The gradient at one logit. -/
def dlogit (z f : Fin 384 → EReal) (e : Fin 384) : EReal :=
  prob z e * (Ideal.ofBits .f32 0x3AF5C28F#32 * (f e - gate z f) + Ideal.ofBits .f32 0x3583126F#32 * lse z)

/-- The mean of the softmaxes at expert `e`. -/
def meanProb (z : Fin 2 → Fin 1024 → Fin 384 → EReal) (e : Fin 384) : EReal :=
  Ideal.div (∑ b, ∑ s, prob (z b s) e) (Ideal.ofBits .f32 0x45000000#32)

end Router

end
-- ==== Proof.KAt.lean ====
module
public import proofs.«01_k».proof.Proof.KBody
public import proofs.«01_k».proof.Proof.Spec
public import Idealize.ShloMosaic.Lib.Pipeline.ValueKit

/-! The parts of the kernel's body at an entry, over the extended reals: the logits as one sum over all
    7168 columns, the softmax parts, the outputs, and the frequencies that the first point leaves. -/

@[expose] public section

set_option maxRecDepth 16384

noncomputable section

namespace Cert.KernelIdeal.At

open Cert.KernelIdeal Cert.KernelIdeal.Gen Cert.KernelIdeal.Body Idealize.ShloMosaic Idealize.ShloMosaic.TcCoe Idealize.SL.Sem

/-! ## The logits -/

/-- The gather's index at a lane is the lane's number over 64. -/
theorem half_at (t : Fin 256) (l : Fin 128) : k0_pay44 (ix2 t l) = BitVec.ofNat 32 (l.val / 64) := by
  pointwise [k0_pay44]
  revert l
  decide +kernel

/-- The lane that a lane's scale is gathered from. -/
theorem gidx_at (n : Fin 28) (j : Fin 2) (t : Fin 256) (l : Fin 128) :
    gidx k0_pay44 (BitVec.ofNat 32 (4 * n.val + 2 * j.val)) (ix2 t l) = BitVec.ofNat 32 (4 * n.val + 2 * j.val + l.val / 64) := by
  pointwise [gidx]
  rw [half_at]
  revert n j l
  decide +kernel

/-- The narrowed, transposed and padded scales at a lane below 112 are the block's scales. -/
theorem scales_at (x1 : Vec Ideal S1x112x256 .f32) (t : Fin 256) (l : Fin 128) (h : l.val < 112) :
    k0_pay43 x1 (ix2 t l) = x1 (ix3 0 ⟨l.val, h⟩ t) := by
  pointwise [k0_pay43]
  rw [dif_pos h]

/-- A load of 128 columns of codes reads the block at those columns. -/
theorem ldX_at (x0 : Vec Ideal S1x256x7168 .fp8e4m3) (n k : ℕ) (h) (t : Fin 256) (l : Fin 128) :
    ldX x0 n k h (ix3 0 t l) = x0 (ix3 0 t ⟨n + k + l.val, by omega⟩) := by
  pointwise [ldX]

/-- A load of 256 columns of the transposed weights reads them at those columns. -/
theorem ldW_at (w : Vec Ideal S384x7168 .bf16) (n : ℕ) (h) (e : Fin 384) (l : Fin 256) :
    ldW w n h (ix2 e l) = w (ix2 e ⟨256 * n + l.val, by omega⟩) := by
  pointwise [ldW]

/-- The summand at column `d` of expert `e`'s logit for token `t`, over the transposed weights. -/
def term (x0 : Vec Ideal S1x256x7168 .fp8e4m3) (x1 : Vec Ideal S1x112x256 .f32) (w : Vec Ideal S384x7168 .bf16)
    (e : Fin 384) (t : Fin 256) (d : Fin 7168) : EReal :=
  x0 (ix3 0 t d) * x1 (ix3 0 ⟨d.val / 64, by omega⟩ t) * w (ix2 e d)

/-- The same with the column a natural number. -/
def termN (x0 : Vec Ideal S1x256x7168 .fp8e4m3) (x1 : Vec Ideal S1x112x256 .f32) (w : Vec Ideal S384x7168 .bf16)
    (e : Fin 384) (t : Fin 256) (d : ℕ) : EReal :=
  if h : d < 7168 then term x0 x1 w e t ⟨d, h⟩ else 0

/-- One lane of one piece of the dequantized codes. -/
theorem piece_at (x0 : Vec Ideal S1x256x7168 .fp8e4m3) (x1 : Vec Ideal S1x112x256 .f32) (n : Fin 28) (j : Fin 2) (h)
    (t : Fin 256) (l : Fin 128) :
    Body.piece (k0_pay43 x1) k0_pay44 (BitVec.ofNat 32 (4 * n.val + 2 * j.val)) (ldX x0 (256 * n.val) (128 * j.val) h) (ix2 t l)
      = x0 (ix3 0 t ⟨256 * n.val + 128 * j.val + l.val, by omega⟩)
        * x1 (ix3 0 ⟨(256 * n.val + 128 * j.val + l.val) / 64, by omega⟩ t) := by
  pointwise [Body.piece]
  rw [ldX_at]
  congr 1
  have e : (gidx k0_pay44 (BitVec.ofNat 32 (4 * n.val + 2 * j.val)) (ix2 t l)).toNat % 128 = (256 * n.val + 128 * j.val + l.val) / 64 := by
    rw [gidx_at, BitVec.toNat_ofNat]; omega
  rw [scales_at x1 t _ (by show _ % 128 < 112; rw [e]; omega)]
  congr 2
  exact Fin.ext e

/-- One chunk's product, lane by lane. -/
theorem chunk_at (x0 : Vec Ideal S1x256x7168 .fp8e4m3) (x1 : Vec Ideal S1x112x256 .f32) (w : Vec Ideal S384x7168 .bf16) (n : ℕ)
    (h : n < 28) (ha hb) (e : Fin 384) (t : Fin 256) :
    chunk (k0_pay43 x1) k0_pay44 (BitVec.ofNat 32 (4 * n)) (BitVec.ofNat 32 (4 * n + 2)) (ldX x0 (256 * n) 0 ha)
        (ldX x0 (256 * n) 128 hb) (ldW w n h) (ix2 e t)
      = ∑ l ∈ Finset.range 256, termN x0 x1 w e t (256 * n + l) := by
  pointwise [chunk]
  rw [Finset.sum_range_add _ 128 128, Finset.sum_range, Finset.sum_range]
  refine congrArg₂ (· + ·) (Finset.sum_congr rfl fun l _ => ?_) (Finset.sum_congr rfl fun l _ => ?_)
  · have := piece_at x0 x1 ⟨n, h⟩ 0 ha t l
    simp only [Fin.val_zero, mul_zero, add_zero] at this
    rw [ldW_at, this, termN, dif_pos (by omega), term, mul_comm]
  · have := piece_at x0 x1 ⟨n, h⟩ 1 hb t l
    simp only [Fin.val_one, mul_one] at this
    rw [ldW_at, this, termN, dif_pos (by omega), term, mul_comm]
    simp only [add_assoc]

/-- The logits accumulated over the first column blocks are a partial sum of the products. -/
theorem Zr_at (x0 : Vec Ideal S1x256x7168 .fp8e4m3) (x1 : Vec Ideal S1x112x256 .f32) (w : Vec Ideal S384x7168 .bf16)
    (e : Fin 384) (t : Fin 256) : ∀ (n : ℕ) (h : n ≤ 28),
    Zr (k0_pay43 x1) k0_pay44 x0 (ldW w) n h (ix2 e t) = ∑ d ∈ Finset.range (256 * n), termN x0 x1 w e t d
  | 0, _ => by
    rw [Zr]
    pointwise [k0_pay45]
    rfl
  | n + 1, h => by
    rw [Zr, show 256 * (n + 1) = 256 * n + 256 from by ring, Finset.sum_range_add, ← Zr_at x0 x1 w e t n (by omega), ← chunk_at x0 x1 w n (by omega) (by omega) (by omega) e t]
    rfl

/-- The transposed weights. -/
theorem WT_at (x2 : Vec Ideal S7168x384 .bf16) (e : Fin 384) (d : Fin 7168) : WT x2 (ix2 e d) = x2 (ix2 d e) := by
  have hp : ∀ (n : ℕ) (h : n ≤ 28), ∀ p ∈ wps x2 n h, ∀ x, p.2 x = (fun i : S384x7168.Idx => x2 (ix2 (i 1) (i 0))) (p.1.emb x) := by
    intro n
    induction n with
    | zero => intro h p hp; exact absurd hp List.not_mem_nil
    | succ n ih =>
      intro h p hp x
      rcases List.mem_cons.1 hp with rfl | hp
      · unfold Body.wp
        idx_vars x
        pointwise
        exact congrArg x2 (congrArg₂ ix2 (Fin.ext (by show 256 * n + x1.val = 256 * n + 1 * x1.val; omega))
          (Fin.ext (by show x0.val = 0 + 1 * x0.val; omega)))
      · exact ih _ p hp x
  have hc : ∀ (n : ℕ) (h : n ≤ 28), d.val < 256 * n → ∃ p ∈ wps x2 n h, (ix2 e d : S384x7168.Idx) ∈ p.1.set := by
    intro n
    induction n with
    | zero => intro h hd; omega
    | succ n ih =>
      intro h hd
      by_cases hn : d.val < 256 * n
      · obtain ⟨p, hp, hm⟩ := ih (by omega) hn
        exact ⟨p, List.mem_cons_of_mem _ hp, hm⟩
      · refine ⟨_, List.mem_cons_self, ?_⟩
        unfold Body.wp
        rw [Rect.mem_set_unit]
        intro a
        match a with
        | ⟨0, _⟩ => exact ⟨Nat.zero_le _, by show e.val < 0 + 384; omega⟩
        | ⟨1, _⟩ => exact ⟨by show 256 * n ≤ d.val; omega, by show d.val < 256 * n + 256; omega⟩
  have := View.canon_append_of_pieces (fun i : S384x7168.Idx => x2 (ix2 (i 1) (i 0))) [] (wps x2 28 (le_refl _)) (hp 28 (le_refl _)) (ix2 e d) (hc 28 (le_refl _) (by omega))
  rw [List.append_nil] at this
  exact this

/-- The logits of a block over the transposed weights: one sum over all columns. -/
theorem Z_at (x0 : Vec Ideal S1x256x7168 .fp8e4m3) (x1 : Vec Ideal S1x112x256 .f32) (x2 : Vec Ideal S7168x384 .bf16)
    (e : Fin 384) (t : Fin 256) :
    Z x0 x1 (ldW (WT x2)) (ix2 e t) = Router.logit (fun d => x0 (ix3 0 t d)) (fun k => x1 (ix3 0 k t)) (fun d e => x2 (ix2 d e)) e := by
  rw [Z, Zr_at, Finset.sum_range]
  refine Finset.sum_congr rfl fun d _ => ?_
  rw [termN, dif_pos d.isLt, term, WT_at]

/-! ## The softmax and the outputs -/

/-- The row of maxima holds each token's largest logit. -/
theorem Mz_at (z : FVec Ideal S384x256 .f32) (u : Fin 1) (t : Fin 256) : Mz z (ix2 u t) = Router.top (fun e => z (ix2 e t)) := by
  pointwise [Mz]
  rfl

/-- The row of log-sum-exps holds each token's log-sum-exp. -/
theorem Lz_at (z : FVec Ideal S384x256 .f32) (u : Fin 1) (t : Fin 256) : Lz z (ix2 u t) = Router.lse (fun e => z (ix2 e t)) := by
  pointwise [Lz, Tz, Ez]
  simp only [Mz_at]
  exact Router.top_add_log _

/-- The probabilities are the softmax of each token's logits. -/
theorem Pz_at (z : FVec Ideal S384x256 .f32) (u : Fin 384) (t : Fin 256) : Pz z (ix2 u t) = Router.prob (fun e => z (ix2 e t)) u := by
  pointwise [Pz, Tz, Ez]
  simp only [Mz_at]
  exact Router.exp_mul_div (fun e => z (ix2 e t)) u

/-- The weighted sum over experts is each token's gate. -/
theorem gate_at (z : FVec Ideal S384x256 .f32) (f : Vec Ideal S384x128 .f32) (u : Fin 1) (t : Fin 256) :
    k0_pay117 (Pz z) (ldF f) (ix2 u t) = Router.gate (fun e => z (ix2 e t)) (fun e => f (ix2 e 0)) := by
  pointwise [k0_pay117, ldF]
  simp only [Pz_at]
  rfl

/-- The first output block holds each token's balance term. -/
theorem aux_at (z : FVec Ideal S384x256 .f32) (f : Vec Ideal S384x128 .f32) (u v : Fin 1) (t : Fin 256) :
    k0_pay120 (Pz z) (ldF f) (ix3 u v t) = Router.auxTerm (fun e => z (ix2 e t)) (fun e => f (ix2 e 0)) := by
  pointwise [k0_pay120]
  rw [gate_at]
  rfl

/-- The second output block holds each token's term of the squared log-sum-exp. -/
theorem zt_at (z : FVec Ideal S384x256 .f32) (u v : Fin 1) (t : Fin 256) :
    k0_pay1 (k0_pay121 (Lz z)) (ix3 u v t) = Router.zTerm (fun e => z (ix2 e t)) := by
  pointwise [k0_pay1, k0_pay121]
  rw [Lz_at]
  rfl

/-- The fourth output block holds each token's log-sum-exp. -/
theorem lse_at (z : FVec Ideal S384x256 .f32) (u v : Fin 1) (t : Fin 256) :
    k0_pay2 (Lz z) (ix3 u v t) = Router.lse (fun e => z (ix2 e t)) := by
  pointwise [k0_pay2]
  rw [Lz_at]

/-- The fifth output block holds the gradient at each token and expert. -/
theorem dl_at (z : FVec Ideal S384x256 .f32) (f : Vec Ideal S384x128 .f32) (u : Fin 1) (t : Fin 256) (e : Fin 384) :
    k0_pay119 (Lz z) (Pz z) (ldF f) (ix3 u t e) = Router.dlogit (fun e => z (ix2 e t)) (fun e => f (ix2 e 0)) e := by
  pointwise [k0_pay119]
  rw [gate_at, Lz_at, Pz_at]
  pointwise [ldF]
  rfl

/-- A point adds to lane `l` the probabilities of its tokens `l` and `l + 128`. -/
theorem pacc_at (z : FVec Ideal S384x256 .f32) (p : Vec Ideal S384x128 .f32) (e : Fin 384) (l : Fin 128) :
    k0_pay118 (Pz z) p (ix2 e l) = p (ix2 e l) + (Router.prob (fun e => z (ix2 e ⟨l.val, by omega⟩)) e
      + Router.prob (fun e => z (ix2 e ⟨128 + l.val, by omega⟩)) e) := by
  pointwise [k0_pay118]
  rw [Pz_at, Pz_at]

/-- The sums start at zero. -/
theorem pacc_zero_at (e : Fin 384) (l : Fin 128) : k0_pay42 (F := Ideal) (ix2 e l) = 0 := by
  pointwise [k0_pay42]

/-- The third output is the sum of the lanes over the number of tokens. -/
theorem mean_at (p : Vec Ideal S384x128 .f32) (u : Fin 1) (e : Fin 384) :
    k0_pay3 p (ix2 u e) = Ideal.div (∑ l, p (ix2 e l)) (Ideal.ofBits .f32 0x45000000#32) := by
  pointwise [k0_pay3]

/-! ## The frequencies -/

/-- One where the choice `j` of a trip, at lane `l` of chunk `n`, names expert `e`; zero elsewhere. -/
def ind (x3 : Vec Ideal S2x8x1024 .i32) (e : Fin 384) (a b s : ℕ) : ℕ :=
  if h : a < 2 ∧ b < 8 ∧ s < 1024 then (if BitVec.ofNat 32 e.val = x3 (ix3 ⟨a, h.1⟩ ⟨b, h.2.1⟩ ⟨s, h.2.2⟩) then 1 else 0) else 0

/-- A comparison of experts and choices at an entry is the indicator as a word. -/
theorem hit_at (x3 : Vec Ideal S2x8x1024 .i32) (a b n : ℕ) (ha hb hn) (e : Fin 384) (l : Fin 128) :
    hit (ldI x3 a b n ha hb hn) (ix2 e l) = BitVec.ofNat 32 (ind x3 e a b (128 * n + l.val)) := by
  have hl : ldI x3 a b n ha hb hn (ix3 0 0 l) = x3 (ix3 ⟨a, ha⟩ ⟨b, hb⟩ ⟨128 * n + l.val, by omega⟩) := by
    pointwise [ldI]
  pointwise [hit]
  rw [hl, ind, dif_pos ⟨ha, hb, by omega⟩]
  split <;> rename_i h
  · simp [IntOp.cmpi, h]
  · rw [IntOp.cmpi, beq_eq_false_iff_ne.2 h]; rfl

/-- The first `j` comparisons of a trip add their indicators to the counts. -/
theorem cs_at (x3 : Vec Ideal S2x8x1024 .i32) (n : ℕ) (hn : n < 8) (acc : IVec S384x128 32) (e : Fin 384) (l : Fin 128) : ∀ (j : ℕ) (h : j ≤ 16),
    cs x3 n hn acc j h (ix2 e l) = acc (ix2 e l) + BitVec.ofNat 32 (∑ i ∈ Finset.range j, ind x3 e (i % 2) (i / 2) (128 * n + l.val))
  | 0, _ => by rw [cs]; simp
  | j + 1, h => by
    rw [cs, Finset.sum_range_succ, BitVec.ofNat_add, ← hit_at x3 (j % 2) (j / 2) n (by omega) (by omega) hn e l, ← BitVec.add_assoc,
      ← cs_at x3 n hn acc e l j (by omega)]
    rfl

/-- The counts before trip `n` are the sums of the indicators so far, as words. -/
theorem cnt_at (x3 : Vec Ideal S2x8x1024 .i32) (e : Fin 384) (l : Fin 128) : ∀ (n : ℕ) (h : n ≤ 8),
    cnt x3 n h (ix2 e l) = BitVec.ofNat 32 (∑ i ∈ Finset.range n, ∑ j ∈ Finset.range 16, ind x3 e (j % 2) (j / 2) (128 * i + l.val))
  | 0, _ => by rw [cnt]; simp [k0_pay38, broadcast]
  | n + 1, h => by
    rw [cnt, cs_at, cnt_at x3 e l n, Finset.sum_range_succ _ n, BitVec.ofNat_add]

/-- An indicator is at most one. -/
theorem ind_le (x3 : Vec Ideal S2x8x1024 .i32) (e : Fin 384) (a b s : ℕ) : ind x3 e a b s ≤ 1 := by
  unfold ind; split <;> (try split) <;> omega

/-- A lane's count of matches, as a natural number. -/
theorem cnt_toInt (x3 : Vec Ideal S2x8x1024 .i32) (e : Fin 384) (l : Fin 128) :
    (cnt x3 8 (le_refl _) (ix2 e l)).toInt = ((∑ i ∈ Finset.range 8, ∑ j ∈ Finset.range 16, ind x3 e (j % 2) (j / 2) (128 * i + l.val) : ℕ) : ℤ) := by
  have hb : ∑ i ∈ Finset.range 8, ∑ j ∈ Finset.range 16, ind x3 e (j % 2) (j / 2) (128 * i + l.val) ≤ 128 :=
    (Finset.sum_le_sum fun i _ => Finset.sum_le_sum fun j _ => ind_le x3 e _ _ _).trans (by simp)
  rw [cnt_at]
  generalize ∑ i ∈ Finset.range 8, ∑ j ∈ Finset.range 16, ind x3 e (j % 2) (j / 2) (128 * i + l.val) = N at hb ⊢
  rw [BitVec.toInt_eq_toNat_of_lt (by rw [BitVec.toNat_ofNat]; omega), BitVec.toNat_ofNat, Nat.mod_eq_of_lt (by omega)]

/-- The lanes' counts add up to the count over all choices. -/
theorem sum_lanes (x3 : Vec Ideal S2x8x1024 .i32) (e : Fin 384) :
    ∑ l : Fin 128, ∑ i ∈ Finset.range 8, ∑ j ∈ Finset.range 16, ind x3 e (j % 2) (j / 2) (128 * i + l.val)
      = Router.count (fun b s k => x3 (ix3 b k s)) e := by
  have h16 : ∀ s : ℕ, ∑ j ∈ Finset.range 16, ind x3 e (j % 2) (j / 2) s = ∑ b : Fin 2, ∑ k : Fin 8, ind x3 e b.val k.val s := fun s => by
    simp only [Finset.sum_range_succ, Finset.sum_range_zero, Fin.sum_univ_two, Fin.sum_univ_eight]
    simp
    ring
  simp only [h16]
  unfold Router.count
  rw [Finset.sum_comm]
  have h1 := Fin.sum_mul_add_fin (L := 1024) 8 128 (fun s => ∑ b : Fin 2, ∑ k : Fin 8, ind x3 e b.val k.val s.val)
  rw [Finset.sum_range]
  simp only [mul_comm 128]
  rw [h1, Finset.sum_comm]
  refine Finset.sum_congr rfl fun b _ => Finset.sum_congr rfl fun s _ => Finset.sum_congr rfl fun k _ => ?_
  rw [ind, dif_pos ⟨b.isLt, k.isLt, s.isLt⟩]

/-- The frequencies that the first point leaves in the scratch. -/
theorem FV_at (x3 : Vec Ideal S2x8x1024 .i32) (e : Fin 384) (l : Fin 128) :
    FV x3 (ix2 e l) = Router.freq (fun b s k => x3 (ix3 b k s)) e := by
  pointwise [FV, k0_pay40, k0_pay41]
  unfold Router.freq
  congr 1
  rw [← sum_lanes]
  have : ∀ x : Fin 128, FloatOps.sitofp (F := Ideal) .f32 (cnt x3 8 (le_refl _) (ix2 e x))
      = ((((∑ i ∈ Finset.range 8, ∑ j ∈ Finset.range 16, ind x3 e (j % 2) (j / 2) (128 * i + x.val) : ℕ) : ℝ)) : EReal) := fun x => by
    show (((cnt x3 8 (le_refl _) (ix2 e x)).toInt : ℝ) : EReal) = _
    rw [cnt_toInt]; rfl
  rw [Finset.sum_congr rfl fun x _ => this x]
  rw [Nat.cast_sum]
  exact (map_sum (⟨⟨((↑) : ℝ → EReal), EReal.coe_zero⟩, EReal.coe_add⟩ : ℝ →+ EReal) _ Finset.univ).symm

end Cert.KernelIdeal.At

end
-- ==== Proof.KOut.lean ====
module
public import proofs.«01_k».proof.Proof.KAt
public import proofs.«01_k».proof.Proof.Gen.KernelIdeal.Value

/-! The kernel's five result arrays, entry by entry, as functions of its arguments: the carried scratch is
    followed through the eight points, and each array is read at the point that writes the entry. -/

@[expose] public section

set_option maxRecDepth 16384

noncomputable section

namespace Cert.KernelIdeal.Out

open Cert.KernelIdeal Cert.KernelIdeal.Gen Cert.KernelIdeal.Body Cert.KernelIdeal.At Idealize.ShloMosaic Idealize.ShloMosaic.TcCoe Idealize.SL.Sem

variable (m : (ℓ : Loc nD τ sig) → Buf (Elt Ideal) ℓ)

/-! ## The blocks, read in the arguments -/

/-- The block of codes at a point: its sequence, and its quarter of the sequence. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

/-- The block of scales at a point: its sequence, and its quarter of the sequence. -/
theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)

/-- The block of weights at a point is the whole array. -/
theorem idx2 : ∀ t : Fin cfg0.N, win0_2.index t (0 : Fin 2) = 0 ∧ win0_2.index t (1 : Fin 2) = 0 :=
  (by decide +kernel : ∀ t : Fin grid0.N, _)

/-- The block of choices at a point is the whole array. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

/-- There are eight points. -/
theorem lt8 (t : Fin cfg0.N) : t.val < 8 := lt_of_lt_of_eq t.isLt N_0

/-- A point's block of the codes, read in the argument. -/
theorem blk0 (c : Dev nD) (t : Fin cfg0.N) (b : Fin 2) (q : Fin 4) (hb : b.val = t.val / 4) (hq : q.val = t.val % 4) (k : Fin 256) (d : Fin 7168) :
    iblk m c 0 t (ix3 (0 : Fin 1) k d) = m ((c : Thread nD τ).loc main_arg0) (ix3 b (⟨256 * q.val + k.val, by omega⟩ : Fin 1024) d) := by
  blk_point [iblk, V, idx0 t]

/-- A point's block of the scales, read in the argument. -/
theorem blk1 (c : Dev nD) (t : Fin cfg0.N) (b : Fin 2) (q : Fin 4) (hb : b.val = t.val / 4) (hq : q.val = t.val % 4) (j : Fin 112) (k : Fin 256) :
    iblk m c 1 t (ix3 (0 : Fin 1) j k) = m ((c : Thread nD τ).loc main_arg1) (ix3 b (⟨256 * q.val + k.val, by omega⟩ : Fin 1024) j) := by
  blk_simp [iblk, V, idx1 t]
  entry_read
  pointwise
  blk_ext [iblk, V, idx1 t]

/-- A point's block of the weights, read in the argument. -/
theorem blk2 (c : Dev nD) (t : Fin cfg0.N) (d : Fin 7168) (e : Fin 384) :
    iblk m c 2 t (ix2 d e) = m ((c : Thread nD τ).loc main_arg2) (ix2 d e) := by
  blk_point [iblk, V, idx2 t]

/-- A point's block of the choices, read in the argument. -/
theorem blk3 (c : Dev nD) (t : Fin cfg0.N) (b : Fin 2) (k : Fin 8) (s : Fin 1024) :
    iblk m c 3 t (ix3 b k s) = m ((c : Thread nD τ).loc main_arg3) (ix3 b s k) := by
  blk_simp [iblk, V, idx3 t]
  entry_read
  pointwise
  blk_ext [iblk, V, idx3 t]

/-! ## What each point leaves -/

/-- The logits of a token. -/
def zrow (c : Dev nD) (b : Fin 2) (s : Fin 1024) : Fin 384 → EReal :=
  Router.rows (m ((c : Thread nD τ).loc main_arg0)) (m ((c : Thread nD τ).loc main_arg1)) (m ((c : Thread nD τ).loc main_arg2)) b s

/-- The frequency of an expert. -/
def fr (c : Dev nD) : Fin 384 → EReal := Router.freqs (m ((c : Thread nD τ).loc main_arg3))

/-- The transposed weights. -/
def W0 (c : Dev nD) : Vec Ideal S384x7168 .bf16 := WT (m ((c : Thread nD τ).loc main_arg2))

/-- The first point. -/
abbrev t0 : Fin cfg0.N := ⟨0, lt_of_lt_of_eq (by decide) N_0.symm⟩

/-- The frequencies in the scratch. -/
def F0 (c : Dev nD) : Vec Ideal S384x128 .f32 := FV (iblk m c 3 t0)

/-- A point's block of the weights is the argument. -/
theorem blk2_whole (c : Dev nD) (t : Fin cfg0.N) : (iblk m c 2 t : Vec Ideal S7168x384 .bf16) = m ((c : Thread nD τ).loc main_arg2) := by
  funext i
  rw [eq_ix2 i]
  exact blk2 m c t (i 0) (i 1)

/-- The frequencies in the scratch are the experts' frequencies. -/
theorem F0_at (c : Dev nD) (e : Fin 384) (l : Fin 128) : F0 m c (ix2 e l) = fr m c e := by
  rw [F0, FV_at]
  unfold fr Router.freqs
  congr 1
  funext b s k
  exact blk3 m c t0 b k s

/-- The logits at a point are those of its 256 tokens. -/
theorem Zt_at (c : Dev nD) (t : Fin cfg0.N) (b : Fin 2) (q : Fin 4) (hb : b.val = t.val / 4) (hq : q.val = t.val % 4) (k : Fin 256) (e : Fin 384) :
    Zt m c t (W0 m c) (ix2 e k) = zrow m c b ⟨256 * q.val + k.val, by omega⟩ e := by
  rw [Zt, W0, Z_at]
  unfold zrow Router.rows
  congr 1
  · funext d; exact blk0 m c t b q hb hq k d
  · funext j; exact blk1 m c t b q hb hq j k

/-- What a point leaves: the outputs from its own logits, the transposed weights and the frequencies unchanged,
    the sums one point further. -/
theorem leaves (c : Dev nD) : ∀ (n : ℕ) (h : n < cfg0.N), ∃ p : Vec Ideal S384x128 .f32,
    Leaves m c ⟨n, h⟩ (W0 m c) (F0 m c) p (outsAt0 m c n h)
    ∧ (n = 0 → p = k0_pay42 (F := Ideal)) ∧ ∀ (k : ℕ) (hk : n = k + 1), p = (outsAt0 m c k (by omega)).2.2.2.2.2.2.2
  | 0, h => ⟨k0_pay42 (F := Ideal), leaves_first m c ⟨0, h⟩ (by show 0 % 8 = 0; omega) (by show ¬0 % 8 = 7; omega) _ _ (by rw [blk2_whole]; rfl) rfl, fun _ => rfl, fun k hk => by omega⟩
  | n + 1, h => by
    have h8 := lt_of_lt_of_eq h N_0
    obtain ⟨p, ⟨-, -, -, -, hw, hf, -⟩, -⟩ := leaves c n (by omega)
    refine ⟨(outsAt0 m c n (by omega)).2.2.2.2.2.2.2, ?_, fun h => by omega, fun k hk => ?_⟩
    case refine_2 =>
      obtain rfl : k = n := by omega
      rfl
    rw [← hw, ← hf]
    by_cases h7 : (n + 1) % 8 = 7
    · exact leaves_last m c ⟨n + 1, h⟩ (by show ¬(n + 1) % 8 = 0; omega) h7 (outsAt0 m c n (by omega)) rfl
    · exact leaves_mid m c ⟨n + 1, h⟩ (by show ¬(n + 1) % 8 = 0; omega) h7 (outsAt0 m c n (by omega)) rfl

/-- The softmax at an expert of token `s` of batch `b`, both read as natural numbers. -/
def pN (c : Dev nD) (e : Fin 384) (b s : ℕ) : EReal :=
  Router.prob (zrow m c ⟨b % 2, by omega⟩ ⟨s % 1024, by omega⟩) e

/-- The softmax of a point's logits. -/
theorem prob_point (c : Dev nD) (t : Fin cfg0.N) (k : Fin 256) (e : Fin 384) :
    Router.prob (fun e => Zt m c t (W0 m c) (ix2 e k)) e = pN m c e (t.val / 4) (t.val % 4 * 256 + k.val) := by
  have h8 := lt8 t
  unfold pN
  congr 1
  funext e'
  rw [Zt_at m c t ⟨t.val / 4, by omega⟩ ⟨t.val % 4, by omega⟩ rfl rfl k e']
  congr 1
  · exact Fin.ext (by show t.val / 4 = t.val / 4 % 2; omega)
  · exact Fin.ext (by show 256 * (t.val % 4) + k.val = (t.val % 4 * 256 + k.val) % 1024; omega)

/-- The sums that a point leaves: over the points so far, two lanes each. -/
theorem sums_at (c : Dev nD) (e : Fin 384) (l : Fin 128) : ∀ (n : ℕ) (h : n < cfg0.N),
    (outsAt0 m c n h).2.2.2.2.2.2.2 (ix2 e l)
      = ∑ i ∈ Finset.range (n + 1), (pN m c e (i / 4) (i % 4 * 256 + l.val) + pN m c e (i / 4) (i % 4 * 256 + (128 + l.val)))
  | 0, h => by
    obtain ⟨p, ⟨-, -, -, -, -, -, hp⟩, h0, -⟩ := leaves m c 0 h
    rw [hp, pacc_at, h0 rfl, pacc_zero_at, prob_point, prob_point, zero_add, Finset.sum_range_one]
  | n + 1, h => by
    obtain ⟨p, ⟨-, -, -, -, -, -, hp⟩, -, hs⟩ := leaves m c (n + 1) h
    rw [hp, pacc_at, hs n rfl, sums_at c e l n, prob_point, prob_point, Finset.sum_range_succ _ (n + 1)]

/-! ## The result arrays -/

/-- The place of an entry in a block of 256 tokens. -/
theorem loc_eq (n : Fin 8) (u : Fin 1) (k : Fin 256) : Value.loc4Of (ix3 n u k) = ix3 (0 : Fin 1) (0 : Fin 1) k := by
  funext a
  match a with
  | ⟨0, _⟩ => exact Fin.ext (by show n.val % 1 = 0; omega)
  | ⟨1, _⟩ => exact Fin.ext (by show u.val % 1 = 0; omega)
  | ⟨2, _⟩ => exact Fin.ext (by show k.val % 256 = k.val; omega)

/-- The point that writes it. -/
theorem pt_eq (n : Fin 8) (u : Fin 1) (k : Fin 256) : Value.pt4Of (ix3 n u k) = n.val := by
  show 1 * (n.val / 1 - 0) + 1 * (u.val / 1 - 0) + 1 * (k.val / 256 - 0) = n.val; omega

/-- The first result: the auxiliary terms. -/
theorem G4_at (c : Dev nD) (n : Fin 8) (u : Fin 1) (k : Fin 256) (b : Fin 2) (q : Fin 4) (hb : b.val = n.val / 4) (hq : q.val = n.val % 4) :
    Value.G4 m c (ix3 n u k) = Router.auxTerm (zrow m c b ⟨256 * q.val + k.val, by omega⟩) (fr m c) := by
  have hn : n.val < cfg0.N := lt_of_lt_of_eq n.isLt N_0.symm
  have hp : Value.pt4Of (ix3 n u k) = n.val := pt_eq n u k
  have hl : Value.loc4Of (ix3 n u k) = ix3 (0 : Fin 1) (0 : Fin 1) k := loc_eq n u k
  unfold Value.G4
  rw [dif_pos (by rw [hp]; exact hn), hl, ← Value.outsAt0_sweep m c _ (by rw [hp]; exact hn)]
  simp only [hp]
  obtain ⟨p, ⟨h, -⟩, -⟩ := leaves m c n.val hn
  rw [h, aux_at]
  simp only [Zt_at m c ⟨n.val, hn⟩ b q hb hq, F0_at]

/-- The second result: the z terms. -/
theorem G5_at (c : Dev nD) (n : Fin 8) (u : Fin 1) (k : Fin 256) (b : Fin 2) (q : Fin 4) (hb : b.val = n.val / 4) (hq : q.val = n.val % 4) :
    Value.G5 m c (ix3 n u k) = Router.zTerm (zrow m c b ⟨256 * q.val + k.val, by omega⟩) := by
  have hn : n.val < cfg0.N := lt_of_lt_of_eq n.isLt N_0.symm
  have hp : Value.pt5Of (ix3 n u k) = n.val := pt_eq n u k
  have hl : Value.loc5Of (ix3 n u k) = ix3 (0 : Fin 1) (0 : Fin 1) k := loc_eq n u k
  unfold Value.G5
  rw [dif_pos (by rw [hp]; exact hn), hl, ← Value.outsAt0_sweep m c _ (by rw [hp]; exact hn)]
  simp only [hp]
  obtain ⟨p, ⟨-, h, -⟩, -⟩ := leaves m c n.val hn
  rw [h, At.zt_at]
  simp only [Zt_at m c ⟨n.val, hn⟩ b q hb hq]

/-- The fourth result: the log-sum-exps. -/
theorem G7_at (c : Dev nD) (n : Fin 8) (u : Fin 1) (k : Fin 256) (b : Fin 2) (q : Fin 4) (hb : b.val = n.val / 4) (hq : q.val = n.val % 4) :
    Value.G7 m c (ix3 n u k) = Router.lse (zrow m c b ⟨256 * q.val + k.val, by omega⟩) := by
  have hn : n.val < cfg0.N := lt_of_lt_of_eq n.isLt N_0.symm
  have hp : Value.pt7Of (ix3 n u k) = n.val := pt_eq n u k
  have hl : Value.loc7Of (ix3 n u k) = ix3 (0 : Fin 1) (0 : Fin 1) k := loc_eq n u k
  unfold Value.G7
  rw [dif_pos (by rw [hp]; exact hn), hl, ← Value.outsAt0_sweep m c _ (by rw [hp]; exact hn)]
  simp only [hp]
  obtain ⟨p, ⟨-, -, h, -⟩, -⟩ := leaves m c n.val hn
  rw [h, lse_at]
  simp only [Zt_at m c ⟨n.val, hn⟩ b q hb hq]

/-- The third result: the mean of the softmaxes. -/
theorem G6_at (c : Dev nD) (u : Fin 1) (e : Fin 384) :
    Value.G6 m c (ix2 u e) = Router.meanProb (zrow m c) e := by
  have h7 : 7 < cfg0.N := lt_of_lt_of_eq (by decide) N_0.symm
  have hP : (outsAt0 m c 7 h7).2.2.1 = k0_pay3 (outsAt0 m c 7 h7).2.2.2.2.2.2.2 :=
    leaves_last_P m c ⟨7, h7⟩ (by show ¬7 % 8 = 0; omega) (by show 7 % 8 = 7; omega)
  rw [Value.G6_last, ← Value.outsAt0_sweep m c 7 h7, hP, mean_at]
  unfold Router.meanProb
  refine congrArg (fun x => Ideal.div x _) ?_
  rw [Finset.sum_congr rfl fun l _ => sums_at m c e l 7 h7, Finset.sum_comm]
  have hs : ∀ i, ∑ l : Fin 128, (pN m c e (i / 4) (i % 4 * 256 + l.val) + pN m c e (i / 4) (i % 4 * 256 + (128 + l.val)))
      = ∑ k ∈ Finset.range 256, pN m c e (i / 4) (i % 4 * 256 + k) := fun i => by
    rw [Finset.sum_add_distrib, Finset.sum_range_add _ 128 128, Finset.sum_range, Finset.sum_range]
  rw [Finset.sum_congr rfl fun i _ => hs i]
  have hl := Finset.sum_points_lanes 2 4 256 (pN m c e)
  rw [show 2 * 4 = 7 + 1 from rfl, show 4 * 256 = 1024 from rfl] at hl
  rw [hl, Finset.sum_range]
  refine Finset.sum_congr rfl fun b _ => ?_
  rw [Finset.sum_range]
  refine Finset.sum_congr rfl fun s _ => ?_
  unfold pN
  rw [show (⟨b.val % 2, by omega⟩ : Fin 2) = b from Fin.ext (Nat.mod_eq_of_lt b.isLt),
    show (⟨s.val % 1024, by omega⟩ : Fin 1024) = s from Fin.ext (Nat.mod_eq_of_lt s.isLt)]

/-- The fifth result: the gradients at the logits. -/
theorem G8_at (c : Dev nD) (b : Fin 2) (s : Fin 1024) (e : Fin 384) :
    Value.G8 m c (ix3 b s e) = Router.dlogit (zrow m c b s) (fr m c) e := by
  have hn : 4 * b.val + s.val / 256 < cfg0.N := lt_of_lt_of_eq (by omega : _ < 8) N_0.symm
  have hp : Value.pt8Of (ix3 b s e) = 4 * b.val + s.val / 256 := by
    show 4 * (b.val / 1 - 0) + 1 * (s.val / 256 - 0) + 1 * (e.val / 384 - 0) = _; omega
  have hl : Value.loc8Of (ix3 b s e) = ix3 (0 : Fin 1) (⟨s.val % 256, by omega⟩ : Fin 256) e := by
    funext a
    match a with
    | ⟨0, _⟩ => exact Fin.ext (by show b.val % 1 = 0; omega)
    | ⟨1, _⟩ => rfl
    | ⟨2, _⟩ => exact Fin.ext (by show e.val % 384 = e.val; omega)
  unfold Value.G8
  rw [dif_pos (by rw [hp]; exact hn), hl, ← Value.outsAt0_sweep m c _ (by rw [hp]; exact hn)]
  simp only [hp]
  obtain ⟨p, ⟨-, -, -, h, -⟩, -⟩ := leaves m c _ hn
  rw [h, dl_at]
  simp only [Zt_at m c ⟨_, hn⟩ b ⟨s.val / 256, by omega⟩ (by show b.val = (4 * b.val + s.val / 256) / 4; omega)
    (by show s.val / 256 = (4 * b.val + s.val / 256) % 4; omega), F0_at]
  rw [show (⟨256 * (s.val / 256) + s.val % 256, by omega⟩ : Fin 1024) = s from Fin.ext (Nat.div_add_mod _ _)]

end Cert.KernelIdeal.Out

end
-- ==== Proof.RTerm.lean ====
module
public import proofs.«01_k».proof.Proof.Gen.ReferenceIdeal.Frame
public import proofs.«01_k».proof.Proof.Spec
public import Idealize.ShloMosaic.Lib.Pipeline.ValueKit
public import Idealize.ShloMosaic.Lib.IndicatorCount

/-! The reference's values as terms of its arguments, and each of them at an entry, over the extended reals. -/

@[expose] public section

set_option maxRecDepth 16384

noncomputable section

namespace Cert.ReferenceIdeal.Term

open Cert.ReferenceIdeal Cert.ReferenceIdeal.Gen Idealize.ShloMosaic Idealize.ShloMosaic.TcCoe Idealize.SL.Sem

variable {F : FTy → Type} [FloatOps F]

/-- The matches of choices and experts, one or zero. -/
def hits (ids : IVec S2x1024x8 32) : IVec S2x1024x8x384 32 :=
  extui 32 (cmpi .eq
    (broadcastInDim S2x1024x8x384 ![0, 1, 2, 3] bcast_S2x1024x8x1_S2x1024x8x384_0_1_2_3
      (broadcastInDim S2x1024x8x1 ![0, 1, 2] bcast_S2x1024x8_S2x1024x8x1_0_1_2 ids))
    (broadcastInDim S2x1024x8x384 ![0, 1, 2, 3] bcast_S1x1x1x384_S2x1024x8x384_0_1_2_3
      (broadcastInDim S1x1x1x384 ![3] bcast_S384_S1x1x1x384_3 (iotaInDim S384 32 0)))) natLt_1_32

/-- The frequencies of the experts. -/
def rf (ids : IVec S2x1024x8 32) : FVec F S384 .f32 :=
  Host.divf (sitofp .f32 (Host.reduce IntOp.addi (hits ids) (constantI S_ 32 0#32) reducesTo_S2x1024x8x384_S384_d0_1_2 h_S_))
    (broadcastInDim S384 ![] bcast_S_S384 (constant S_ .f32 0x46800000#32))

/-- The dequantized codes. -/
def rx (x : FVec F S2x1024x7168 .bf16) (sc : FVec F S2x1024x112 .f32) : FVec F S2x1024x7168 .bf16 :=
  shapeCast S2x1024x7168 (mulf (shapeCast S2x1024x112x64 x shapeCasts_S2x1024x7168_S2x1024x112x64 : FVec F S2x1024x112x64 .bf16)
    (broadcastInDim S2x1024x112x64 ![0, 1, 2, 3] bcast_S2x1024x112x1_S2x1024x112x64_0_1_2_3
      (broadcastInDim S2x1024x112x1 ![0, 1, 2] bcast_S2x1024x112_S2x1024x112x1_0_1_2 (truncf .bf16 sc bitsLt_bf16_f32))))
    shapeCasts_S2x1024x112x64_S2x1024x7168

/-- The logits. -/
def rz (x : FVec F S2x1024x7168 .bf16) (sc : FVec F S2x1024x112 .f32) (w : FVec F S7168x384 .bf16) : FVec F S2x1024x384 .f32 :=
  Host.dotGeneral dot_S2x1024x7168_S7168x384_S2x1024x384_2_0_01_1_n_n none (rx x sc) w

/-- The largest logit of each token. -/
def rm (z : FVec F S2x1024x384 .f32) : FVec F S2x1024 .f32 :=
  Host.reduce FloatOps.maximumf z (constant S_ .f32 0xFF800000#32) reducesTo_S2x1024x384_S2x1024_d2 h_S_

/-- A value per token, at every expert. -/
def wide (v : FVec F S2x1024 .f32) : FVec F S2x1024x384 .f32 :=
  broadcastInDim S2x1024x384 ![0, 1, 2] bcast_S2x1024x1_S2x1024x384_0_1_2 (broadcastInDim S2x1024x1 ![0, 1] bcast_S2x1024_S2x1024x1_0_1 v)

/-- A value per expert, at every token. -/
def tall (f : FVec F S384 .f32) : FVec F S2x1024x384 .f32 :=
  broadcastInDim S2x1024x384 ![0, 1, 2] bcast_S1x1x384_S2x1024x384_0_1_2 (broadcastInDim S1x1x384 ![2] bcast_S384_S1x1x384_2 f)

/-- The shifted logits. -/
def rzm (z : FVec F S2x1024x384 .f32) : FVec F S2x1024x384 .f32 := subf z (wide (rm z))

/-- The log of the sum of their exponentials. -/
def rls (z : FVec F S2x1024x384 .f32) : FVec F S2x1024 .f32 :=
  Host.log (Host.reduceAdd (Host.exp (rzm z)) (constant S_ .f32 0x00000000#32) reducesTo_S2x1024x384_S2x1024_d2 h_S_)

/-- The log-sum-exps. -/
def rl (z : FVec F S2x1024x384 .f32) : FVec F S2x1024 .f32 := addf (rls z) (rm z)

/-- The softmaxes. -/
def rp (z : FVec F S2x1024x384 .f32) : FVec F S2x1024x384 .f32 := Host.exp (subf (rzm z) (wide (rls z)))

/-- Their means. -/
def rP (z : FVec F S2x1024x384 .f32) : FVec F S384 .f32 :=
  Host.divf (Host.reduceAdd (rp z) (constant S_ .f32 0x00000000#32) reducesTo_S2x1024x384_S384_d0_1 h_S_)
    (broadcastInDim S384 ![] bcast_S_S384 (constant S_ .f32 0x45000000#32))

/-- The frequencies weighted by the softmaxes. -/
def rg (z : FVec F S2x1024x384 .f32) (f : FVec F S384 .f32) : FVec F S2x1024 .f32 :=
  Host.reduceAdd (mulf (rp z) (tall f)) (constant S_ .f32 0x00000000#32) reducesTo_S2x1024x384_S2x1024_d2 h_S_

/-- The first result. -/
def out0 (z : FVec F S2x1024x384 .f32) (f : FVec F S384 .f32) : FVec F S8x1x256 .f32 :=
  shapeCast S8x1x256 (mulf (broadcastInDim S2x1024 ![] bcast_S_S2x1024 (constant S_ .f32 0x3AF5C28F#32)) (rg z f)) shapeCasts_S2x1024_S8x1x256

/-- The second result. -/
def out1 (z : FVec F S2x1024x384 .f32) : FVec F S8x1x256 .f32 :=
  shapeCast S8x1x256 (mulf (mulf (broadcastInDim S2x1024 ![] bcast_S_S2x1024 (constant S_ .f32 0x3503126F#32)) (rl z)) (rl z)) shapeCasts_S2x1024_S8x1x256

/-- The third result. -/
def out2 (z : FVec F S2x1024x384 .f32) : FVec F S1x384 .f32 := shapeCast S1x384 (rP z) shapeCasts_S384_S1x384

/-- The fourth result. -/
def out3 (z : FVec F S2x1024x384 .f32) : FVec F S8x1x256 .f32 := shapeCast S8x1x256 (rl z) shapeCasts_S2x1024_S8x1x256

/-- The fifth result. -/
def out4 (z : FVec F S2x1024x384 .f32) (f : FVec F S384 .f32) : FVec F S2x1024x384 .f32 :=
  mulf (rp z) (addf
    (mulf (broadcastInDim S2x1024x384 ![] bcast_S_S2x1024x384 (constant S_ .f32 0x3AF5C28F#32)) (subf (tall f) (wide (rg z f))))
    (broadcastInDim S2x1024x384 ![0, 1, 2] bcast_S2x1024x1_S2x1024x384_0_1_2
      (mulf (broadcastInDim S2x1024x1 ![] bcast_S_S2x1024x1 (constant S_ .f32 0x3583126F#32))
        (broadcastInDim S2x1024x1 ![0, 1] bcast_S2x1024_S2x1024x1_0_1 (rl z)))))

/-! ## At an entry -/

/-- A value per token reads the same at every expert. -/
theorem wide_at (v : FVec Ideal S2x1024 .f32) (b : Fin 2) (s : Fin 1024) (e : Fin 384) : wide v (ix3 b s e) = v (ix2 b s) := by
  pointwise [wide]

/-- A value per expert reads the same at every token. -/
theorem tall_at (f : FVec Ideal S384 .f32) (b : Fin 2) (s : Fin 1024) (e : Fin 384) : tall f (ix3 b s e) = f (ix1 e) := by
  pointwise [tall]

/-- A dequantized code is the code times the scale of its block of 64 columns. -/
theorem rx_at (x : FVec Ideal S2x1024x7168 .bf16) (sc : FVec Ideal S2x1024x112 .f32) (b : Fin 2) (s : Fin 1024) (d : Fin 7168) :
    rx x sc (ix3 b s d) = x (ix3 b s d) * sc (ix3 b s ⟨d.val / 64, by omega⟩) := by
  pointwise [rx]

/-- A logit is the product over the 7168 columns. -/
theorem rz_at (x : FVec Ideal S2x1024x7168 .bf16) (sc : FVec Ideal S2x1024x112 .f32) (w : FVec Ideal S7168x384 .bf16) (b : Fin 2) (s : Fin 1024)
    (e : Fin 384) : rz x sc w (ix3 b s e) = Router.rows x sc w b s e := by
  pointwise [rz]
  simp only [rx_at]
  rfl

/-- The largest logit of a token. -/
theorem rm_at (z : FVec Ideal S2x1024x384 .f32) (b : Fin 2) (s : Fin 1024) : rm z (ix2 b s) = Router.top (fun e => z (ix3 b s e)) := by
  pointwise [rm]
  rfl

/-- The log of a token's sum of shifted exponentials. -/
theorem rls_at (z : FVec Ideal S2x1024x384 .f32) (b : Fin 2) (s : Fin 1024) : rls z (ix2 b s) = Router.logTot (fun e => z (ix3 b s e)) := by
  pointwise [rls, rzm]
  simp only [wide_at, rm_at]
  rfl

/-- The log-sum-exp of a token. -/
theorem rl_at (z : FVec Ideal S2x1024x384 .f32) (b : Fin 2) (s : Fin 1024) : rl z (ix2 b s) = Router.lse (fun e => z (ix3 b s e)) := by
  pointwise [rl]
  rw [rls_at, rm_at]
  rfl

/-- The softmax of a token at an expert. -/
theorem rp_at (z : FVec Ideal S2x1024x384 .f32) (b : Fin 2) (s : Fin 1024) (e : Fin 384) :
    rp z (ix3 b s e) = Router.prob (fun e => z (ix3 b s e)) e := by
  pointwise [rp, rzm]
  rw [wide_at, wide_at, rls_at, rm_at]
  rfl

/-- The frequencies weighted by a token's softmax. -/
theorem rg_at (z : FVec Ideal S2x1024x384 .f32) (f : FVec Ideal S384 .f32) (b : Fin 2) (s : Fin 1024) :
    rg z f (ix2 b s) = Router.gate (fun e => z (ix3 b s e)) (fun e => f (ix1 e)) := by
  pointwise [rg]
  simp only [rp_at, tall_at]
  rfl

/-- The tokens' entries that a sum over both token axes gathers at an expert. -/
theorem fiber_rows (e : Fin 384) (i : S2x1024x384.Idx) :
    reducesTo_S2x1024x384_S384_d0_1.drop i = ix1 e ↔ ∃ p : Fin 2 × Fin 1024, ix3 p.1 p.2 e = i := by
  constructor
  · intro h
    refine ⟨(i 0, i 1), ?_⟩
    funext a; apply Fin.ext
    match a with
    | ⟨0, _⟩ => rfl
    | ⟨1, _⟩ => rfl
    | ⟨2, _⟩ => exact (congrArg Fin.val (congrFun h 0)).symm
  · rintro ⟨p, rfl⟩
    funext b
    apply Fin.ext
    match b with
    | ⟨0, _⟩ => rfl

/-- A sum over both token axes. -/
theorem sum_rows (v : S2x1024x384.Idx → EReal) (e : Fin 384) :
    ∑ i ∈ Finset.univ.filter (fun i => reducesTo_S2x1024x384_S384_d0_1.drop i = ix1 e), v i = ∑ b : Fin 2, ∑ s : Fin 1024, v (ix3 b s e) := by
  rw [Finset.sum_filter_eq_sum_of_fiber _ (fun p : Fin 2 × Fin 1024 => ix3 p.1 p.2 e)
    (fun _ _ h => Prod.ext (congrFun h 0) (congrFun h 1)) (fiber_rows e) v, Fintype.sum_prod_type]

/-- The mean probability of an expert. -/
theorem rP_at (z : FVec Ideal S2x1024x384 .f32) (e : Fin 384) :
    rP z (ix1 e) = Router.meanProb (fun b s e => z (ix3 b s e)) e := by
  pointwise [rP]
  rw [Ideal.hostReduceAdd, sum_rows, zero_add]
  simp only [rp_at]
  rfl

/-- A value per token, laid out by chunks of 256 tokens. -/
theorem chunks_at (v : FVec Ideal S2x1024 .f32) (n : Fin 8) (u : Fin 1) (k : Fin 256) (b : Fin 2) (q : Fin 4)
    (hb : b.val = n.val / 4) (hq : q.val = n.val % 4) :
    shapeCast S8x1x256 v shapeCasts_S2x1024_S8x1x256 (ix3 n u k) = v (ix2 b ⟨256 * q.val + k.val, by omega⟩) := by
  pointwise []
  refine congrArg v (congrArg₂ ix2 (Fin.ext hb.symm) (Fin.ext ?_))
  show n.val % 4 * 256 + k.val = 256 * q.val + k.val
  omega

/-- The first result at an entry is its token's balance term. -/
theorem out0_at (z : FVec Ideal S2x1024x384 .f32) (f : FVec Ideal S384 .f32) (n : Fin 8) (u : Fin 1) (k : Fin 256) (b : Fin 2) (q : Fin 4)
    (hb : b.val = n.val / 4) (hq : q.val = n.val % 4) :
    out0 z f (ix3 n u k) = Router.auxTerm (fun e => z (ix3 b ⟨256 * q.val + k.val, by omega⟩ e)) (fun e => f (ix1 e)) := by
  rw [out0, chunks_at _ n u k b q hb hq]
  pointwise []
  rw [rg_at]
  rfl

/-- The second result at an entry is its token's term of the squared log-sum-exp. -/
theorem out1_at (z : FVec Ideal S2x1024x384 .f32) (n : Fin 8) (u : Fin 1) (k : Fin 256) (b : Fin 2) (q : Fin 4)
    (hb : b.val = n.val / 4) (hq : q.val = n.val % 4) :
    out1 z (ix3 n u k) = Router.zTerm (fun e => z (ix3 b ⟨256 * q.val + k.val, by omega⟩ e)) := by
  rw [out1, chunks_at _ n u k b q hb hq]
  pointwise []
  rw [rl_at]
  rfl

/-- The fourth result at an entry is its token's log-sum-exp. -/
theorem out3_at (z : FVec Ideal S2x1024x384 .f32) (n : Fin 8) (u : Fin 1) (k : Fin 256) (b : Fin 2) (q : Fin 4)
    (hb : b.val = n.val / 4) (hq : q.val = n.val % 4) :
    out3 z (ix3 n u k) = Router.lse (fun e => z (ix3 b ⟨256 * q.val + k.val, by omega⟩ e)) := by
  rw [out3, chunks_at _ n u k b q hb hq, rl_at]

/-- The third result at an entry is its expert's mean probability. -/
theorem out2_at (z : FVec Ideal S2x1024x384 .f32) (u : Fin 1) (e : Fin 384) :
    out2 z (ix2 u e) = Router.meanProb (fun b s e => z (ix3 b s e)) e := by
  pointwise [out2]
  rw [rP_at]

/-- The fifth result at an entry is the gradient at its token and expert. -/
theorem out4_at (z : FVec Ideal S2x1024x384 .f32) (f : FVec Ideal S384 .f32) (b : Fin 2) (s : Fin 1024) (e : Fin 384) :
    out4 z f (ix3 b s e) = Router.dlogit (fun e => z (ix3 b s e)) (fun e => f (ix1 e)) e := by
  pointwise [out4]
  rw [rp_at, wide_at, rg_at, rl_at, tall_at]
  rfl

/-! ## The frequencies -/

/-- The match of a choice and an expert. -/
def isHit (ids : IVec S2x1024x8 32) (i : S2x1024x8x384.Idx) : BitVec 1 :=
  IntOp.cmpi .eq (ids (ix3 (i 0) (i 1) (i 2))) (BitVec.ofNat 32 (i 3).val)

/-- The matches are one-bit comparisons, widened to words. -/
theorem hits_eq (ids : IVec S2x1024x8 32) : hits ids = fun i => (isHit ids i).setWidth 32 := by
  funext i
  rw [eq_ix4 i]
  pointwise [hits, isHit]

/-- The choices that a sum over the three choice axes gathers at an expert. -/
theorem fiber_choices (e : Fin 384) (i : S2x1024x8x384.Idx) :
    reducesTo_S2x1024x8x384_S384_d0_1_2.drop i = ix1 e ↔ ∃ p : Fin 2 × Fin 1024 × Fin 8, ix4 p.1 p.2.1 p.2.2 e = i := by
  constructor
  · intro h
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun h 0)).symm
  · rintro ⟨p, rfl⟩
    funext b
    apply Fin.ext
    match b with
    | ⟨0, _⟩ => rfl

/-- The number of matches at an expert. -/
theorem card_hits (ids : IVec S2x1024x8 32) (e : Fin 384) :
    ((Finset.univ.filter fun i => reducesTo_S2x1024x8x384_S384_d0_1_2.drop i = ix1 e).filter fun i => isHit ids i = 1#1).card
      = Router.count (fun b s k => ids (ix3 b s k)) e := by
  rw [Finset.card_filter, Finset.sum_filter_eq_sum_of_fiber _ (fun p : Fin 2 × Fin 1024 × Fin 8 => ix4 p.1 p.2.1 p.2.2 e)
    (fun _ _ h => Prod.ext (congrFun h 0) (Prod.ext (congrFun h 1) (congrFun h 2))) (fiber_choices e), Fintype.sum_prod_type]
  simp only [Fintype.sum_prod_type]
  unfold Router.count
  refine Finset.sum_congr rfl fun b _ => Finset.sum_congr rfl fun s _ => Finset.sum_congr rfl fun k _ => ?_
  refine if_congr ?_ rfl rfl
  show IntOp.cmpi .eq (ids (ix3 b s k)) (BitVec.ofNat 32 e.val) = 1#1 ↔ _
  by_cases h : ids (ix3 b s k) = BitVec.ofNat 32 e.val
  · simp [IntOp.cmpi, h]
  · have h' : ¬ BitVec.ofNat 32 e.val = ids (ix3 b s k) := fun g => h g.symm
    rw [IntOp.cmpi, beq_eq_false_iff_ne.2 h]
    simp [h']

/-- No expert is chosen more than 16384 times. -/
theorem count_le (ids : Fin 2 → Fin 1024 → Fin 8 → BitVec 32) (e : Fin 384) : Router.count ids e ≤ 16384 := by
  unfold Router.count
  refine (Finset.sum_le_sum fun b _ => Finset.sum_le_sum fun s _ => Finset.sum_le_sum (g := fun _ => 1) fun k _ => ?_).trans (by simp)
  split <;> omega

/-- The frequency of an expert. -/
theorem rf_at (ids : IVec S2x1024x8 32) (e : Fin 384) : rf (F := Ideal) ids (ix1 e) = Router.freqs ids e := by
  pointwise [rf]
  rw [hits_eq, IndicatorCount.fold_addi_setWidth_eq_card, card_hits]
  have hc := count_le (fun b s k => ids (ix3 b s k)) e
  unfold Router.freqs Router.freq
  generalize Router.count (fun b s k => ids (ix3 b s k)) e = N at hc ⊢
  congr 1
  show (((BitVec.ofNat 32 N).toInt : ℝ) : EReal) = _
  rw [BitVec.toInt_eq_toNat_of_lt (by rw [BitVec.toNat_ofNat]; omega), BitVec.toNat_ofNat, Nat.mod_eq_of_lt (by omega)]
  rfl

end Cert.ReferenceIdeal.Term

end
-- ==== Proof.RRun.lean ====
module
public import proofs.«01_k».proof.Proof.RTerm
public import Idealize.ShloMosaic.Lib.Pipeline.FrameSuffix
public import Idealize.ShloMosaic.Lib.StableHlo.RunRead

/-! The reference's run: what its five result buffers hold at the end, as the terms of RTerm.lean over its arguments. -/

@[expose] public section

set_option maxRecDepth 16384

noncomputable section

namespace Cert.ReferenceIdeal.Run

open Cert.ReferenceIdeal Cert.ReferenceIdeal.Gen Cert.ReferenceIdeal.Term Idealize.ShloMosaic Idealize.ShloMosaic.TcCoe Idealize.SL Idealize.SL.RA Idealize.SL.Sem Idealize.ShloMosaic.Pipeline

variable {F : FTy → Type} [FloatOps F]

/-- The frequencies, as the host operations before the region leave them. -/
theorem pre_freq (U : Valuation τ sig (Elt F)) :
    StableHlo.after (List.flatten [hostOps0]) U (Proc.devRef .tc main_v10) = rf (F := F) (U (Proc.devRef .tc main_arg3)) := by
  after_reads_simp
  rfl

/-- The logits that the host operations after the region compute. -/
abbrev zOf (U : Valuation τ sig (Elt F)) : FVec F S2x1024x384 .f32 :=
  rz (U (Proc.devRef .tc main_v11)) (U (Proc.devRef .tc main_arg1)) (U (Proc.devRef .tc main_arg2))

/-- The first result, as the host operations after the region leave it. -/
theorem post_aux (U : Valuation τ sig (Elt F)) :
    StableHlo.after (List.flatten [hostOps1]) U (Proc.devRef .tc main_v56) = out0 (zOf U) (U (Proc.devRef .tc main_v10)) := by
  after_reads_simp
  rfl

/-- The second result, as the host operations after the region leave it. -/
theorem post_z (U : Valuation τ sig (Elt F)) :
    StableHlo.after (List.flatten [hostOps1]) U (Proc.devRef .tc main_v57) = out1 (zOf U) := by
  after_reads_simp
  rfl

/-- The third result, as the host operations after the region leave it. -/
theorem post_P (U : Valuation τ sig (Elt F)) :
    StableHlo.after (List.flatten [hostOps1]) U (Proc.devRef .tc main_v58) = out2 (zOf U) := by
  after_reads_simp
  rfl

/-- The fourth result, as the host operations after the region leave it. -/
theorem post_lse (U : Valuation τ sig (Elt F)) :
    StableHlo.after (List.flatten [hostOps1]) U (Proc.devRef .tc main_v59) = out3 (zOf U) := by
  after_reads_simp
  rfl

/-- The fifth result, as the host operations after the region leave it. -/
theorem post_dl (U : Valuation τ sig (Elt F)) :
    StableHlo.after (List.flatten [hostOps1]) U (Proc.devRef .tc main_v55) = out4 (zOf U) (U (Proc.devRef .tc main_v10)) := by
  after_reads_simp
  rfl

variable (m : (ℓ : Loc nD τ sig) → Buf (Elt F) ℓ) (ρ : Dev nD → PrngReg)

/-- The region's block of the codes is the argument. -/
theorem block (c : Dev nD) : iblk m c 0 t0_0 = (m ((c : Thread nD τ).loc main_arg0) : Vec F S2x1024x7168 .fp8e4m3) := by
  funext y
  refine Eq.trans ?_ (congrFun (V_main_arg0 m c) y)
  show V m c main_arg0 (((cfg0.win 0).blk t0_0).view.emb y) = V m c main_arg0 y
  refine congrArg (V m c main_arg0) ?_
  funext a
  apply Fin.ext
  show 0 * _ + 1 * (y a).val = (y a).val
  omega

/-- What the body leaves is its block widened. -/
theorem out_eq (x : Vec F S2x1024x7168 .fp8e4m3) : out0_1 x = (extf .bf16 x bitsLt_fp8e4m3_bf16 : FVec F S2x1024x7168 .bf16) := by
  have h0 : (![0, 0, 0] : Fin S2x1024x7168.rank → ℕ) = fun _ => 0 := by decide
  rw [out0_1, View.canon_unit_zero h0, View.ld_unit_zero h0, k0_pay1]

/-- The region widens the codes. -/
theorem codes (c : Dev nD) :
    (dats m 0 c).arrAt 1 cfg0.N = (extf .bf16 (m ((c : Thread nD τ).loc main_arg0) : Vec F S2x1024x7168 .fp8e4m3) bitsLt_fp8e4m3_bf16 : FVec F S2x1024x7168 .bf16) := by
  funext i
  refine (Dat.arrAt_emb_eq_after_last (dats m 0 c) 1 t0_0 (by decide) i).trans ?_
  rw [after0_1, block, out_eq]
  blk_simp
  rfl

/-- The contents that the host operations after the region find. -/
abbrev mid (c : Dev nD) : Valuation τ sig (Elt F) :=
  Pipeline.withArrays (cfgs 0).spec c (V0 m c) fun w => (dats m 0 c).arrAt w (cfgs 0).N

/-- After the region the widened codes are the argument's. -/
theorem mid_codes (c : Dev nD) : mid m c (Proc.devRef .tc main_v11)
    = (extf .bf16 (m ((c : Thread nD τ).loc main_arg0) : Vec F S2x1024x7168 .fp8e4m3) bitsLt_fp8e4m3_bf16 : FVec F S2x1024x7168 .bf16) :=
  (Pipeline.withArrays_arr spec0 launch0.win.arr_inj c (V0 m c) _ 1).trans (codes m c)

/-- After the region the scales are the argument. -/
theorem mid_scales (c : Dev nD) : mid m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- After the region the weights are the argument. -/
theorem mid_router (c : Dev nD) : mid m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

/-- After the region the frequencies are those of the choices. -/
theorem mid_freq (c : Dev nD) : mid m c (Proc.devRef .tc main_v10) = rf (F := F) (m ((c : Thread nD τ).loc main_arg3)) :=
  (Pipeline.withArrays_of_ne _ c (V0 m c) _ main_v10 (by exact (by decide : ∀ w, Pipeline.arrRef spec0 w ≠ main_v10))).trans (pre_freq _)

/-- The logits of the arguments. -/
def z (c : Dev nD) : FVec F S2x1024x384 .f32 :=
  rz (extf .bf16 (m ((c : Thread nD τ).loc main_arg0) : Vec F S2x1024x7168 .fp8e4m3) bitsLt_fp8e4m3_bf16) (m ((c : Thread nD τ).loc main_arg1))
    (m ((c : Thread nD τ).loc main_arg2))

/-- The logits after the region are those of the arguments. -/
theorem zOf_mid (c : Dev nD) : zOf (mid m c) = z m c := by
  rw [zOf, mid_codes, mid_scales, mid_router, z]

/-- The reference's run ends with its five results at the terms of the arguments, and the arguments unchanged. -/
theorem run : θ_run defs (onTc (τ := τ) (main (F := F))) ⟨m, fun _ => 0, ρ⟩ fun r => ∀ c : Dev nD,
      r.2.mem ((c : Thread nD τ).loc main_v56) = out0 (z m c) (rf (F := F) (m ((c : Thread nD τ).loc main_arg3)))
      ∧ r.2.mem ((c : Thread nD τ).loc main_v57) = out1 (z m c)
      ∧ r.2.mem ((c : Thread nD τ).loc main_v58) = out2 (z m c)
      ∧ r.2.mem ((c : Thread nD τ).loc main_v59) = out3 (z m c)
      ∧ r.2.mem ((c : Thread nD τ).loc main_v55) = out4 (z m c) (rf (F := F) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨?_, ?_, ?_, ?_, ?_,
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)
  · refine ((h c).2 main_v56 (Pipeline.mem_restRefs_of main_v56 (by decide) (by decide))).trans ((post_aux (mid m c)).trans ?_)
    rw [zOf_mid, mid_freq]
  · refine ((h c).2 main_v57 (Pipeline.mem_restRefs_of main_v57 (by decide) (by decide))).trans ((post_z (mid m c)).trans ?_)
    rw [zOf_mid]
  · refine ((h c).2 main_v58 (Pipeline.mem_restRefs_of main_v58 (by decide) (by decide))).trans ((post_P (mid m c)).trans ?_)
    rw [zOf_mid]
  · refine ((h c).2 main_v59 (Pipeline.mem_restRefs_of main_v59 (by decide) (by decide))).trans ((post_lse (mid m c)).trans ?_)
    rw [zOf_mid]
  · refine ((h c).2 main_v55 (Pipeline.mem_restRefs_of main_v55 (by decide) (by decide))).trans ((post_dl (mid m c)).trans ?_)
    rw [zOf_mid, mid_freq]

end Cert.ReferenceIdeal.Run

end
-- ==== Proof.Algebraic.lean ====
module
public import proofs.«01_k».proof.Defs
public import proofs.«01_k».proof.Proof.KOut
public import proofs.«01_k».proof.Proof.RRun

/-! The kernel and the reference leave the same five results, over the extended reals. -/

@[expose] public section

set_option maxRecDepth 16384

noncomputable section

namespace Cert.Agree

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The sequence of a chunk of 256 tokens. -/
def seq (n : Fin 8) : Fin 2 := ⟨n.val / 4, by omega⟩

/-- The place of a chunk of 256 tokens in its sequence. -/
def part (n : Fin 8) : Fin 4 := ⟨n.val % 4, by omega⟩

/-- The two programs start from the same four arguments on core `c`. -/
def Same (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)

variable {m m'} {c : Dev KernelIdeal.nD} (h : Same m m' c)
include h

/-- The logits agree. -/
theorem logits (b : Fin 2) (s : Fin 1024) : (fun e => ReferenceIdeal.Run.z m' c (ix3 b s e)) = KernelIdeal.Out.zrow m c b s := by
  obtain ⟨h0, h1, h2, -⟩ := h
  funext e
  rw [ReferenceIdeal.Run.z, ReferenceIdeal.Term.rz_at, h0, h1, h2]
  rfl

/-- The frequencies agree. -/
theorem freqs : (fun e => ReferenceIdeal.Term.rf (F := Ideal) (m' ((c.tc : Thread ReferenceIdeal.nD ReferenceIdeal.τ).loc ReferenceIdeal.main_arg3)) (ix1 e))
    = KernelIdeal.Out.fr m c := by
  obtain ⟨-, -, -, h3⟩ := h
  funext e
  rw [ReferenceIdeal.Term.rf_at, h3]
  rfl

/-- The first results agree: each token's balance term. -/
theorem aux : ReferenceIdeal.Term.out0 (ReferenceIdeal.Run.z m' c)
      (ReferenceIdeal.Term.rf (F := Ideal) (m' ((c.tc : Thread ReferenceIdeal.nD ReferenceIdeal.τ).loc ReferenceIdeal.main_arg3)))
    = KernelIdeal.Value.G4 m c := by
  funext i
  rw [eq_ix3 i]
  refine (ReferenceIdeal.Term.out0_at _ _ (i 0) (i 1) (i 2) (seq (i 0)) (part (i 0)) rfl rfl).trans
    (Eq.trans ?_ (KernelIdeal.Out.G4_at m c (i 0) (i 1) (i 2) (seq (i 0)) (part (i 0)) rfl rfl).symm)
  exact congrArg₂ Router.auxTerm (logits h _ _) (freqs h)

/-- The second results agree: each token's term of the squared log-sum-exp. -/
theorem zTerm : ReferenceIdeal.Term.out1 (ReferenceIdeal.Run.z m' c) = KernelIdeal.Value.G5 m c := by
  funext i
  rw [eq_ix3 i]
  refine (ReferenceIdeal.Term.out1_at _ (i 0) (i 1) (i 2) (seq (i 0)) (part (i 0)) rfl rfl).trans
    (Eq.trans ?_ (KernelIdeal.Out.G5_at m c (i 0) (i 1) (i 2) (seq (i 0)) (part (i 0)) rfl rfl).symm)
  exact congrArg Router.zTerm (logits h _ _)

/-- The third results agree: each expert's mean probability. -/
theorem mean : ReferenceIdeal.Term.out2 (ReferenceIdeal.Run.z m' c) = KernelIdeal.Value.G6 m c := by
  funext i
  rw [eq_ix2 i]
  refine (ReferenceIdeal.Term.out2_at _ (i 0) (i 1)).trans (Eq.trans ?_ (KernelIdeal.Out.G6_at m c (i 0) (i 1)).symm)
  exact congrArg (fun z => Router.meanProb z (i 1)) (funext fun b => funext fun s => logits h b s)

/-- The fourth results agree: each token's log-sum-exp. -/
theorem lse : ReferenceIdeal.Term.out3 (ReferenceIdeal.Run.z m' c) = KernelIdeal.Value.G7 m c := by
  funext i
  rw [eq_ix3 i]
  refine (ReferenceIdeal.Term.out3_at _ (i 0) (i 1) (i 2) (seq (i 0)) (part (i 0)) rfl rfl).trans
    (Eq.trans ?_ (KernelIdeal.Out.G7_at m c (i 0) (i 1) (i 2) (seq (i 0)) (part (i 0)) rfl rfl).symm)
  exact congrArg Router.lse (logits h _ _)

/-- The fifth results agree: the gradient at every token and expert. -/
theorem dlogits : ReferenceIdeal.Term.out4 (ReferenceIdeal.Run.z m' c)
      (ReferenceIdeal.Term.rf (F := Ideal) (m' ((c.tc : Thread ReferenceIdeal.nD ReferenceIdeal.τ).loc ReferenceIdeal.main_arg3)))
    = KernelIdeal.Value.G8 m c := by
  funext i
  rw [eq_ix3 i]
  refine (ReferenceIdeal.Term.out4_at _ _ (i 0) (i 1) (i 2)).trans (Eq.trans ?_ (KernelIdeal.Out.G8_at m c (i 0) (i 1) (i 2)).symm)
  exact congrArg₂ (fun z f => Router.dlogit z f (i 2)) (logits h _ _) (freqs h)

omit h

/-- The kernel and the reference, from the same arguments, both end with the same five results. -/
theorem algebraic : Cert.algebraic_KernelIdeal_ReferenceIdeal := by
  intro m g m' g' _ hm
  refine ⟨KernelIdeal.Value.G4 m, KernelIdeal.Value.G5 m, KernelIdeal.Value.G6 m, KernelIdeal.Value.G7 m, KernelIdeal.Value.G8 m,
    KernelIdeal.Value.run m g, ?_⟩
  refine (θ_run ReferenceIdeal.defs _ _).mono (fun r h c => ?_) (ReferenceIdeal.Run.run m' g')
  have hs : Same m m' c := hm c
  obtain ⟨h0, h1, h2, h3, h4, ha⟩ := h c
  exact ⟨h0.trans (aux hs), h1.trans (zTerm hs), h2.trans (mean hs), h3.trans (lse hs), h4.trans (dlogits hs), ha⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Agree.algebraic⟩

end Cert.Proof

end
